-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x48x128 : Shape := ⟨4, ![2, 768, 48, 128]⟩
abbrev S2x48 : Shape := ⟨2, ![2, 48]⟩
abbrev S2x768x8x128 : Shape := ⟨4, ![2, 768, 8, 128]⟩
abbrev S2x8 : Shape := ⟨2, ![2, 8]⟩
abbrev S2x8x150 : Shape := ⟨3, ![2, 8, 150]⟩
abbrev S2x8x260 : Shape := ⟨3, ![2, 8, 260]⟩
abbrev S2x8x6 : Shape := ⟨3, ![2, 8, 6]⟩
abbrev S2x8x1 : Shape := ⟨3, ![2, 8, 1]⟩
abbrev S2x8x7 : Shape := ⟨3, ![2, 8, 7]⟩
abbrev S16x7 : Shape := ⟨2, ![16, 7]⟩
abbrev S2x8x2 : Shape := ⟨3, ![2, 8, 2]⟩
abbrev S16x2 : Shape := ⟨2, ![16, 2]⟩
abbrev S2x768x6144 : Shape := ⟨3, ![2, 768, 6144]⟩
abbrev S2x8x768x128 : Shape := ⟨4, ![2, 8, 768, 128]⟩
abbrev S16x1x150 : Shape := ⟨3, ![16, 1, 150]⟩
abbrev S16x260x1 : Shape := ⟨3, ![16, 260, 1]⟩
abbrev S1x1x150 : Shape := ⟨3, ![1, 1, 150]⟩
abbrev S1x260x1 : Shape := ⟨3, ![1, 260, 1]⟩
abbrev S1x768x768 : Shape := ⟨3, ![1, 768, 768]⟩
abbrev S1x1x768x128 : Shape := ⟨4, ![1, 1, 768, 128]⟩
abbrev S768x768 : Shape := ⟨2, ![768, 768]⟩
abbrev S128x768 : Shape := ⟨2, ![128, 768]⟩
abbrev S1x150 : Shape := ⟨2, ![1, 150]⟩
abbrev S1x1 : Shape := ⟨2, ![1, 1]⟩
abbrev S768x150 : Shape := ⟨2, ![768, 150]⟩
abbrev S768 : Shape := ⟨1, ![768]⟩
abbrev S768x1 : Shape := ⟨2, ![768, 1]⟩
abbrev S260x1 : Shape := ⟨2, ![260, 1]⟩
abbrev S260x768 : Shape := ⟨2, ![260, 768]⟩
abbrev S1x768 : Shape := ⟨2, ![1, 768]⟩
abbrev S1x128 : Shape := ⟨2, ![1, 128]⟩
abbrev S1x1024 : Shape := ⟨2, ![1, 1024]⟩
abbrev S128x1024 : Shape := ⟨2, ![128, 1024]⟩
abbrev S128x128 : Shape := ⟨2, ![128, 128]⟩
abbrev S128x1 : Shape := ⟨2, ![128, 1]⟩
abbrev S768x128 : Shape := ⟨2, ![768, 128]⟩
abbrev S1x256 : Shape := ⟨2, ![1, 256]⟩
abbrev S1x128x128 : Shape := ⟨3, ![1, 128, 128]⟩
abbrev S256x128 : Shape := ⟨2, ![256, 128]⟩
abbrev S1x1x128x128 : Shape := ⟨4, ![1, 1, 128, 128]⟩
abbrev S128x256 : Shape := ⟨2, ![128, 256]⟩
abbrev S256 : Shape := ⟨1, ![256]⟩
abbrev S1x1x256x128 : Shape := ⟨4, ![1, 1, 256, 128]⟩
abbrev S256x256 : Shape := ⟨2, ![256, 256]⟩
abbrev S1x1x384x128 : Shape := ⟨4, ![1, 1, 384, 128]⟩
abbrev S384x128 : Shape := ⟨2, ![384, 128]⟩
abbrev S384x256 : Shape := ⟨2, ![384, 256]⟩
abbrev S128x384 : Shape := ⟨2, ![128, 384]⟩
abbrev S1x1x512x128 : Shape := ⟨4, ![1, 1, 512, 128]⟩
abbrev S512x128 : Shape := ⟨2, ![512, 128]⟩
abbrev S512x256 : Shape := ⟨2, ![512, 256]⟩
abbrev S128x512 : Shape := ⟨2, ![128, 512]⟩
abbrev S1x1x640x128 : Shape := ⟨4, ![1, 1, 640, 128]⟩
abbrev S640x128 : Shape := ⟨2, ![640, 128]⟩
abbrev S640x256 : Shape := ⟨2, ![640, 256]⟩
abbrev S128x640 : Shape := ⟨2, ![128, 640]⟩
abbrev S768x256 : Shape := ⟨2, ![768, 256]⟩

abbrev nBuf : Space → Nat
  | .hbm => 27
  | .vmem => 14
  | .smem => 2
  | _ => 0

abbrev bufTy : (tb : Table) → Fin (tcTables nBuf tb) → BufTy
  | .hbm, ⟨0, _⟩ => ⟨S2x768x48x128, .fp8e4m3⟩
  | .hbm, ⟨1, _⟩ => ⟨S2x48, .f32⟩
  | .hbm, ⟨2, _⟩ => ⟨S2x768x8x128, .fp8e4m3⟩
  | .hbm, ⟨3, _⟩ => ⟨S2x8, .f32⟩
  | .hbm, ⟨4, _⟩ => ⟨S2x768x8x128, .fp8e4m3⟩
  | .hbm, ⟨5, _⟩ => ⟨S2x8, .f32⟩
  | .hbm, ⟨6, _⟩ => ⟨S2x8x150, .i32⟩
  | .hbm, ⟨7, _⟩ => ⟨S2x8, .i32⟩
  | .hbm, ⟨8, _⟩ => ⟨S2x8x260, .i32⟩
  | .hbm, ⟨9, _⟩ => ⟨S2x8, .i32⟩
  | .hbm, ⟨10, _⟩ => ⟨S2x8x6, .f32⟩
  | .hbm, ⟨11, _⟩ => ⟨S2x8x1, .f32⟩
  | .hbm, ⟨12, _⟩ => ⟨S2x8x6, .f32⟩
  | .hbm, ⟨13, _⟩ => ⟨S2x8x6, .f32⟩
  | .hbm, ⟨14, _⟩ => ⟨S2x8x1, .f32⟩
  | .hbm, ⟨15, _⟩ => ⟨S2x8x7, .f32⟩
  | .hbm, ⟨16, _⟩ => ⟨S16x7, .f32⟩
  | .hbm, ⟨17, _⟩ => ⟨S2x8x1, .i32⟩
  | .hbm, ⟨18, _⟩ => ⟨S2x8x1, .i32⟩
  | .hbm, ⟨19, _⟩ => ⟨S2x8x2, .i32⟩
  | .hbm, ⟨20, _⟩ => ⟨S16x2, .i32⟩
  | .hbm, ⟨21, _⟩ => ⟨S2x768x6144, .fp8e4m3⟩
  | .hbm, ⟨22, _⟩ => ⟨S2x8x768x128, .fp8e4m3⟩
  | .hbm, ⟨23, _⟩ => ⟨S2x8x768x128, .fp8e4m3⟩
  | .hbm, ⟨24, _⟩ => ⟨S16x1x150, .i32⟩
  | .hbm, ⟨25, _⟩ => ⟨S16x260x1, .i32⟩
  | .hbm, ⟨26, _⟩ => ⟨S2x768x6144, .bf16⟩
  | .local _ .vmem, ⟨0, _⟩ => ⟨S1x1x150, .i32⟩
  | .local _ .vmem, ⟨1, _⟩ => ⟨S1x1x150, .i32⟩
  | .local _ .vmem, ⟨2, _⟩ => ⟨S1x260x1, .i32⟩
  | .local _ .vmem, ⟨3, _⟩ => ⟨S1x260x1, .i32⟩
  | .local _ .vmem, ⟨4, _⟩ => ⟨S1x768x768, .fp8e4m3⟩
  | .local _ .vmem, ⟨5, _⟩ => ⟨S1x768x768, .fp8e4m3⟩
  | .local _ .vmem, ⟨6, _⟩ => ⟨S1x1x768x128, .fp8e4m3⟩
  | .local _ .vmem, ⟨7, _⟩ => ⟨S1x1x768x128, .fp8e4m3⟩
  | .local _ .vmem, ⟨8, _⟩ => ⟨S1x1x768x128, .fp8e4m3⟩
  | .local _ .vmem, ⟨9, _⟩ => ⟨S1x1x768x128, .fp8e4m3⟩
  | .local _ .vmem, ⟨10, _⟩ => ⟨S1x768x768, .bf16⟩
  | .local _ .vmem, ⟨11, _⟩ => ⟨S1x768x768, .bf16⟩
  | .local _ .vmem, ⟨12, _⟩ => ⟨S768x768, .f32⟩
  | .local _ .vmem, ⟨13, _⟩ => ⟨S128x768, .bf16⟩
  | .local _ .smem, ⟨0, _⟩ => ⟨S16x7, .f32⟩
  | .local _ .smem, ⟨1, _⟩ => ⟨S16x2, .i32⟩
  | _, _ => ⟨S2x768x48x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v1 : Index := Scalar.indexCast arg0
  let c0 : Index := 0#32
  ![v1.toNat, 0]
def k0_off2 (i : grid0.Coords) : Fin 2 → Nat :=
  let arg0 : BitVec 32 := BitVec.ofNat 32 (i 0).val
  let v17 : Index := Scalar.indexCast arg0
  let c1 : Index := 1#32
  ![v17.toNat, 1]
def k0_off3 (i : grid0.Coords) : Fin 2 → Nat :=
  let arg0 : BitVec 32 := BitVec.ofNat 32 (i 0).val
  let v307 : Index := Scalar.indexCast arg0
  let c0_116 : Index := 0#32
  ![v307.toNat, 0]
def k0_off4 (i : grid0.Coords) : Fin 2 → Nat :=
  let arg0 : BitVec 32 := BitVec.ofNat 32 (i 0).val
  let v310 : Index := Scalar.indexCast arg0
  let c1_118 : Index := 1#32
  ![v310.toNat, 1]
def k0_off5 (i : grid0.Coords) : Fin 2 → Nat :=
  let arg0 : BitVec 32 := BitVec.ofNat 32 (i 0).val
  let v313 : Index := Scalar.indexCast arg0
  let c6 : Index := 6#32
  ![v313.toNat, 6]
def k0_off6 (i : grid0.Coords) : Fin 2 → Nat :=
  let arg0 : BitVec 32 := BitVec.ofNat 32 (i 0).val
  let v540 : Index := Scalar.indexCast arg0
  let c2 : Index := 2#32
  ![v540.toNat, 2]
def k0_off7 (i : grid0.Coords) : Fin 2 → Nat :=
  let arg0 : BitVec 32 := BitVec.ofNat 32 (i 0).val
  let v543 : Index := Scalar.indexCast arg0
  let c3 : Index := 3#32
  ![v543.toNat, 3]
def k0_off8 (i : grid0.Coords) : Fin 2 → Nat :=
  let arg0 : BitVec 32 := BitVec.ofNat 32 (i 0).val
  let v773 : Index := Scalar.indexCast arg0
  let c4 : Index := 4#32
  ![v773.toNat, 4]
def k0_off9 (i : grid0.Coords) : Fin 2 → Nat :=
  let arg0 : BitVec 32 := BitVec.ofNat 32 (i 0).val
  let v776 : Index := Scalar.indexCast arg0
  let c5 : Index := 5#32
  ![v776.toNat, 5]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S16x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x150 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x260x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S2x768x48x128 : Shape := ⟨4, ![2, 768, 48, 128]⟩
abbrev S2x48 : Shape := ⟨2, ![2, 48]⟩
abbrev S2x768x8x128 : Shape := ⟨4, ![2, 768, 8, 128]⟩
abbrev S2x8 : Shape := ⟨2, ![2, 8]⟩
abbrev S2x8x150 : Shape := ⟨3, ![2, 8, 150]⟩
abbrev S2x8x260 : Shape := ⟨3, ![2, 8, 260]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S_ : Shape := ⟨0, ![]⟩
abbrev S150 : Shape := ⟨1, ![150]⟩
abbrev S1x1x150 : Shape := ⟨3, ![1, 1, 150]⟩
abbrev S2x8x1 : Shape := ⟨3, ![2, 8, 1]⟩
abbrev S260 : Shape := ⟨1, ![260]⟩
abbrev S1x1x260 : Shape := ⟨3, ![1, 1, 260]⟩
abbrev S2x8x150x1 : Shape := ⟨4, ![2, 8, 150, 1]⟩
abbrev S1x1x1x768 : Shape := ⟨4, ![1, 1, 1, 768]⟩
abbrev S2x8x150x768 : Shape := ⟨4, ![2, 8, 150, 768]⟩
abbrev S2x8x768 : Shape := ⟨3, ![2, 8, 768]⟩
abbrev S2x8x260x1x1 : Shape := ⟨5, ![2, 8, 260, 1, 1]⟩
abbrev S1x1x1x768x768 : Shape := ⟨5, ![1, 1, 1, 768, 768]⟩
abbrev S2x8x260x768x768 : Shape := ⟨5, ![2, 8, 260, 768, 768]⟩
abbrev S2x8x768x768 : Shape := ⟨4, ![2, 8, 768, 768]⟩
abbrev S2x8x1x768 : Shape := ⟨4, ![2, 8, 1, 768]⟩
abbrev S1x1x768x768 : Shape := ⟨4, ![1, 1, 768, 768]⟩
abbrev S2x8x6 : Shape := ⟨3, ![2, 8, 6]⟩
abbrev S2x768x8x6x128 : Shape := ⟨5, ![2, 768, 8, 6, 128]⟩
abbrev S2x8x768x768x6 : Shape := ⟨5, ![2, 8, 768, 768, 6]⟩
abbrev S2x8x6x768x768 : Shape := ⟨5, ![2, 8, 6, 768, 768]⟩
abbrev S2x8x1x768x768 : Shape := ⟨5, ![2, 8, 1, 768, 768]⟩
abbrev S2x8x6x1x1 : Shape := ⟨5, ![2, 8, 6, 1, 1]⟩
abbrev S2x8x6x768 : Shape := ⟨4, ![2, 8, 6, 768]⟩
abbrev S2x8x6x768x1 : Shape := ⟨5, ![2, 8, 6, 768, 1]⟩
abbrev S2x8x128x6x768 : Shape := ⟨5, ![2, 8, 128, 6, 768]⟩
abbrev S2x1x8x1x1 : Shape := ⟨5, ![2, 1, 8, 1, 1]⟩
abbrev S2x768x6144 : Shape := ⟨3, ![2, 768, 6144]⟩

abbrev nBuf : Space → Nat
  | .hbm => 102
  | .vmem => 6
  | .smem => 0
  | _ => 0

abbrev bufTy : (tb : Table) → Fin (tcTables nBuf tb) → BufTy
  | .hbm, ⟨0, _⟩ => ⟨S2x768x48x128, .fp8e4m3⟩
  | .hbm, ⟨1, _⟩ => ⟨S2x48, .f32⟩
  | .hbm, ⟨2, _⟩ => ⟨S2x768x8x128, .fp8e4m3⟩
  | .hbm, ⟨3, _⟩ => ⟨S2x8, .f32⟩
  | .hbm, ⟨4, _⟩ => ⟨S2x768x8x128, .fp8e4m3⟩
  | .hbm, ⟨5, _⟩ => ⟨S2x8, .f32⟩
  | .hbm, ⟨6, _⟩ => ⟨S2x8x150, .i32⟩
  | .hbm, ⟨7, _⟩ => ⟨S2x8, .i32⟩
  | .hbm, ⟨8, _⟩ => ⟨S2x8x260, .i32⟩
  | .hbm, ⟨9, _⟩ => ⟨S2x8, .i32⟩
  | .hbm, ⟨10, _⟩ => ⟨S2x768x48x128, .f32⟩
  | .hbm, ⟨11, _⟩ => ⟨S2x768x8x128, .f32⟩
  | .hbm, ⟨12, _⟩ => ⟨S2x768x8x128, .bf16⟩
  | .hbm, ⟨13, _⟩ => ⟨S768, .i32⟩
  | .hbm, ⟨14, _⟩ => ⟨S768x1, .i32⟩
  | .hbm, ⟨15, _⟩ => ⟨S1x768, .i32⟩
  | .hbm, ⟨16, _⟩ => ⟨S768x768, .i32⟩
  | .hbm, ⟨17, _⟩ => ⟨S768x768, .i32⟩
  | .hbm, ⟨18, _⟩ => ⟨S768x768, .i32⟩
  | .hbm, ⟨19, _⟩ => ⟨S_, .i32⟩
  | .hbm, ⟨20, _⟩ => ⟨S768x768, .i32⟩
  | .hbm, ⟨21, _⟩ => ⟨S768x768, .i1⟩
  | .hbm, ⟨22, _⟩ => ⟨S150, .i32⟩
  | .hbm, ⟨23, _⟩ => ⟨S1x1x150, .i32⟩
  | .hbm, ⟨24, _⟩ => ⟨S2x8x1, .i32⟩
  | .hbm, ⟨25, _⟩ => ⟨S2x8x150, .i32⟩
  | .hbm, ⟨26, _⟩ => ⟨S2x8x150, .i32⟩
  | .hbm, ⟨27, _⟩ => ⟨S2x8x150, .i1⟩
  | .hbm, ⟨28, _⟩ => ⟨S260, .i32⟩
  | .hbm, ⟨29, _⟩ => ⟨S1x1x260, .i32⟩
  | .hbm, ⟨30, _⟩ => ⟨S2x8x1, .i32⟩
  | .hbm, ⟨31, _⟩ => ⟨S2x8x260, .i32⟩
  | .hbm, ⟨32, _⟩ => ⟨S2x8x260, .i32⟩
  | .hbm, ⟨33, _⟩ => ⟨S2x8x260, .i1⟩
  | .hbm, ⟨34, _⟩ => ⟨S2x8x150x1, .i32⟩
  | .hbm, ⟨35, _⟩ => ⟨S1x1x1x768, .i32⟩
  | .hbm, ⟨36, _⟩ => ⟨S2x8x150x768, .i32⟩
  | .hbm, ⟨37, _⟩ => ⟨S2x8x150x768, .i32⟩
  | .hbm, ⟨38, _⟩ => ⟨S2x8x150x768, .i1⟩
  | .hbm, ⟨39, _⟩ => ⟨S2x8x150x1, .i1⟩
  | .hbm, ⟨40, _⟩ => ⟨S2x8x150x768, .i1⟩
  | .hbm, ⟨41, _⟩ => ⟨S2x8x150x768, .i1⟩
  | .hbm, ⟨42, _⟩ => ⟨S_, .i1⟩
  | .hbm, ⟨43, _⟩ => ⟨S2x8x768, .i1⟩
  | .hbm, ⟨44, _⟩ => ⟨S2x8x260x1x1, .i32⟩
  | .hbm, ⟨45, _⟩ => ⟨S1x1x1x768x768, .i32⟩
  | .hbm, ⟨46, _⟩ => ⟨S2x8x260x768x768, .i32⟩
  | .hbm, ⟨47, _⟩ => ⟨S2x8x260x768x768, .i32⟩
  | .hbm, ⟨48, _⟩ => ⟨S2x8x260x768x768, .i1⟩
  | .hbm, ⟨49, _⟩ => ⟨S2x8x260x1x1, .i1⟩
  | .hbm, ⟨50, _⟩ => ⟨S2x8x260x768x768, .i1⟩
  | .hbm, ⟨51, _⟩ => ⟨S2x8x260x768x768, .i1⟩
  | .hbm, ⟨52, _⟩ => ⟨S_, .i1⟩
  | .hbm, ⟨53, _⟩ => ⟨S2x8x768x768, .i1⟩
  | .hbm, ⟨54, _⟩ => ⟨S2x8x1x768, .i1⟩
  | .hbm, ⟨55, _⟩ => ⟨S2x8x768x768, .i1⟩
  | .hbm, ⟨56, _⟩ => ⟨S2x8x768x768, .i1⟩
  | .hbm, ⟨57, _⟩ => ⟨S1x1x768x768, .i1⟩
  | .hbm, ⟨58, _⟩ => ⟨S2x8x768x768, .i1⟩
  | .hbm, ⟨59, _⟩ => ⟨S2x8x768x768, .i1⟩
  | .hbm, ⟨60, _⟩ => ⟨S2x8x6, .f32⟩
  | .hbm, ⟨61, _⟩ => ⟨S2x8x1, .f32⟩
  | .hbm, ⟨62, _⟩ => ⟨S2x8x6, .f32⟩
  | .hbm, ⟨63, _⟩ => ⟨S2x8x6, .f32⟩
  | .hbm, ⟨64, _⟩ => ⟨S_, .f32⟩
  | .hbm, ⟨65, _⟩ => ⟨S_, .f32⟩
  | .hbm, ⟨66, _⟩ => ⟨S2x8x6, .f32⟩
  | .hbm, ⟨67, _⟩ => ⟨S2x8x6, .f32⟩
  | .hbm, ⟨68, _⟩ => ⟨S2x768x8x6x128, .f32⟩
  | .hbm, ⟨69, _⟩ => ⟨S2x8x768x768x6, .f32⟩
  | .hbm, ⟨70, _⟩ => ⟨S2x8x6x768x768, .f32⟩
  | .hbm, ⟨71, _⟩ => ⟨S2x8x1x768x768, .i1⟩
  | .hbm, ⟨72, _⟩ => ⟨S2x8x6x1x1, .f32⟩
  | .hbm, ⟨73, _⟩ => ⟨S2x8x6x768x768, .f32⟩
  | .hbm, ⟨74, _⟩ => ⟨S2x8x6x768x768, .f32⟩
  | .hbm, ⟨75, _⟩ => ⟨S_, .f32⟩
  | .hbm, ⟨76, _⟩ => ⟨S_, .f32⟩
  | .hbm, ⟨77, _⟩ => ⟨S2x8x6x768x768, .i1⟩
  | .hbm, ⟨78, _⟩ => ⟨S2x8x6x768x768, .f32⟩
  | .hbm, ⟨79, _⟩ => ⟨S2x8x6x768x768, .f32⟩
  | .hbm, ⟨80, _⟩ => ⟨S_, .f32⟩
  | .hbm, ⟨81, _⟩ => ⟨S2x8x6x768, .f32⟩
  | .hbm, ⟨82, _⟩ => ⟨S2x8x6x768x1, .f32⟩
  | .hbm, ⟨83, _⟩ => ⟨S2x8x6x768x768, .f32⟩
  | .hbm, ⟨84, _⟩ => ⟨S2x8x6x768x768, .f32⟩
  | .hbm, ⟨85, _⟩ => ⟨S2x8x6x768x768, .f32⟩
  | .hbm, ⟨86, _⟩ => ⟨S_, .f32⟩
  | .hbm, ⟨87, _⟩ => ⟨S2x8x6x768, .f32⟩
  | .hbm, ⟨88, _⟩ => ⟨S2x8x6x768x1, .f32⟩
  | .hbm, ⟨89, _⟩ => ⟨S_, .f32⟩
  | .hbm, ⟨90, _⟩ => ⟨S2x8x6x768x1, .f32⟩
  | .hbm, ⟨91, _⟩ => ⟨S2x8x6x768x1, .f32⟩
  | .hbm, ⟨92, _⟩ => ⟨S2x8x6x768x768, .f32⟩
  | .hbm, ⟨93, _⟩ => ⟨S2x8x6x768x768, .f32⟩
  | .hbm, ⟨94, _⟩ => ⟨S2x8x6x768x768, .bf16⟩
  | .hbm, ⟨95, _⟩ => ⟨S2x8x128x6x768, .f32⟩
  | .hbm, ⟨96, _⟩ => ⟨S2x768x8x6x128, .f32⟩
  | .hbm, ⟨97, _⟩ => ⟨S2x1x8x1x1, .f32⟩
  | .hbm, ⟨98, _⟩ => ⟨S2x768x8x6x128, .f32⟩
  | .hbm, ⟨99, _⟩ => ⟨S2x768x8x6x128, .f32⟩
  | .hbm, ⟨100, _⟩ => ⟨S2x768x6144, .f32⟩
  | .hbm, ⟨101, _⟩ => ⟨S2x768x6144, .bf16⟩
  | .local _ .vmem, ⟨0, _⟩ => ⟨S2x768x48x128, .fp8e4m3⟩
  | .local _ .vmem, ⟨1, _⟩ => ⟨S2x768x8x128, .fp8e4m3⟩
  | .local _ .vmem, ⟨2, _⟩ => ⟨S2x768x8x128, .fp8e4m3⟩
  | .local _ .vmem, ⟨3, _⟩ => ⟨S2x768x48x128, .f32⟩
  | .local _ .vmem, ⟨4, _⟩ => ⟨S2x768x8x128, .f32⟩
  | .local _ .vmem, ⟨5, _⟩ => ⟨S2x768x8x128, .bf16⟩
  | _, _ => ⟨S2x768x48x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_2 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v59 : Ref sig .tc := ⟨.hbm, 79, rfl⟩
abbrev main_cst_3 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_4 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x48x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/- Softmax over the extended reals, as the two programs compute it.

   The reference takes `exp (x − max x)` over all `N` keys, masked keys having the score `−∞`, and multiplies each
   probability by the reciprocal of the sum before it weighs the values. The kernel takes base-2 exponentials of scores
   scaled by `1 / log 2`, over the first `n` keys only (the later ones are masked), and divides once at the end. The
   theorem `attend_eq` says that the two agree at every extended real input, infinities included. -/
module

public import Idealize.ShloMosaic.PureOps.Ideal
public import Idealize.ShloMosaic.PureOps.Ideal.Laws

@[expose] public section

noncomputable section

namespace Cert.Softmax

open Idealize.ShloMosaic

/-- The factor between the natural and the base-2 exponential. -/
def L : ℝ := (Real.log 2)⁻¹

theorem L_pos : 0 < L := inv_pos.mpr (Real.log_pos (by norm_num))

/-- A power of two at a difference of scaled scores is the exponential of the difference of the scores. -/
theorem exp2_scaled (x M : EReal) : Ideal.exp2 (x * (L : EReal) - M * (L : EReal)) = Ideal.exp (x - M) := by
  have hL := L_pos
  induction x with
  | bot =>
    rw [EReal.bot_mul_coe_of_pos hL, sub_eq_add_neg, sub_eq_add_neg, EReal.bot_add, EReal.bot_add]; rfl
  | top =>
    induction M with
    | bot => rw [EReal.top_mul_coe_of_pos hL, EReal.bot_mul_coe_of_pos hL]; rfl
    | top => rw [EReal.top_mul_coe_of_pos hL]; rfl
    | coe m => rw [EReal.top_mul_coe_of_pos hL, ← EReal.coe_mul, EReal.top_sub_coe, EReal.top_sub_coe]; rfl
  | coe r =>
    induction M with
    | bot => rw [← EReal.coe_mul, EReal.bot_mul_coe_of_pos hL, EReal.coe_sub_bot, EReal.coe_sub_bot]; rfl
    | top =>
      rw [← EReal.coe_mul, EReal.top_mul_coe_of_pos hL, EReal.sub_top, EReal.sub_top]; rfl
    | coe m =>
      rw [← EReal.coe_mul, ← EReal.coe_mul, ← EReal.coe_sub, ← EReal.coe_sub]
      show ((Real.rpow 2 (r * L - m * L) : ℝ) : EReal) = ((Real.exp (r - m) : ℝ) : EReal)
      congr 1
      show (2 : ℝ) ^ (r * L - m * L) = _
      rw [Real.rpow_def_of_pos (by norm_num)]
      congr 1
      have : Real.log 2 ≠ 0 := (Real.log_pos (by norm_num)).ne'
      unfold L; field_simp

/-- A positive real factor commutes with a maximum. -/
theorem sup_scaled {ι : Type} (s : Finset ι) (x : ι → EReal) :
    (s.sup fun k => x k * (L : EReal)) = s.sup x * (L : EReal) := by
  have hL : (0 : EReal) ≤ (L : EReal) := EReal.coe_nonneg.mpr L_pos.le
  refine (Finset.apply_sup_eq_sup_comp_of_linearOrder (fun y : EReal => y * (L : EReal))
    (fun a b h => mul_le_mul_of_nonneg_right h hL) ?_).symm
  exact EReal.bot_mul_coe_of_pos L_pos

/-- A nonnegative real factor goes under a sum, whatever the summands. -/
theorem sum_mul_coe {ι : Type} (s : Finset ι) (g : ι → EReal) (t : ℝ) (ht : 0 ≤ t) :
    (∑ k ∈ s, g k) * (t : EReal) = ∑ k ∈ s, g k * (t : EReal) := by
  classical
  induction s using Finset.induction_on with
  | empty => simp
  | insert a s ha ih =>
    rw [Finset.sum_insert ha, Finset.sum_insert ha, ← ih]
    exact EReal.right_distrib_of_nonneg_of_ne_top (EReal.coe_nonneg.mpr ht) (EReal.coe_ne_top t) _ _

/-- A score no larger than the maximum has a real, nonnegative exponential. -/
theorem exp_sub_real (x M : EReal) (h : x ≤ M) : ∃ r : ℝ, 0 ≤ r ∧ Ideal.exp (x - M) = (r : EReal) := by
  induction x with
  | bot => exact ⟨0, le_rfl, by rw [sub_eq_add_neg, EReal.bot_add]; rfl⟩
  | top =>
    obtain rfl := top_le_iff.mp h
    exact ⟨0, le_rfl, rfl⟩
  | coe r =>
    induction M with
    | bot => exact absurd (le_bot_iff.mp h) (EReal.coe_ne_bot r)
    | top => exact ⟨0, le_rfl, by rw [EReal.sub_top]; rfl⟩
    | coe m => exact ⟨Real.exp (r - m), (Real.exp_pos _).le, by rw [← EReal.coe_sub]; rfl⟩

/-- Real nonnegative weights: dividing once after the weighted sum is dividing each weight before it. -/
theorem normalise {ι : Type} (s : Finset ι) (e V : ι → EReal) (vs : EReal)
    (he : ∀ k ∈ s, ∃ r : ℝ, 0 ≤ r ∧ e k = (r : EReal)) :
    (∑ k ∈ s, V k * e k) * Ideal.div vs (∑ k ∈ s, e k)
      = (∑ k ∈ s, e k * Ideal.div 1 (∑ k ∈ s, e k) * V k) * vs := by
  classical
  choose! r hr0 hr using he
  have hsum : ∑ k ∈ s, e k = ((∑ k ∈ s, r k : ℝ) : EReal) := by
    rw [Finset.sum_congr rfl hr]
    induction s using Finset.induction_on with
    | empty => simp
    | insert a s ha ih =>
      rw [Finset.sum_insert ha, Finset.sum_insert ha, EReal.coe_add,
        ih (fun k hk => hr0 k (Finset.mem_insert_of_mem hk)) (fun k hk => hr k (Finset.mem_insert_of_mem hk))]
  by_cases h0 : ∑ k ∈ s, r k = 0
  · have hz : ∀ k ∈ s, e k = 0 := fun k hk => by
      rw [hr k hk, (Finset.sum_eq_zero_iff_of_nonneg hr0).mp h0 k hk]; rfl
    have hA : ∑ k ∈ s, V k * e k = 0 := Finset.sum_eq_zero fun k hk => by rw [hz k hk, mul_zero]
    have hB : ∀ d, ∑ k ∈ s, e k * d * V k = 0 := fun d => Finset.sum_eq_zero fun k hk => by rw [hz k hk, zero_mul, zero_mul]
    rw [hA, hB, zero_mul, zero_mul]
  · have hn : 0 ≤ ∑ k ∈ s, r k := Finset.sum_nonneg hr0
    have hne : ((∑ k ∈ s, r k : ℝ) : EReal) ≠ 0 := by exact_mod_cast h0
    rw [hsum]
    unfold Ideal.div
    rw [if_neg hne, if_neg hne, ← EReal.coe_inv, one_mul]
    rw [show vs * (((∑ k ∈ s, r k)⁻¹ : ℝ) : EReal) = (((∑ k ∈ s, r k)⁻¹ : ℝ) : EReal) * vs from mul_comm _ _,
      ← mul_assoc, sum_mul_coe s _ _ (inv_nonneg.mpr hn)]
    congr 1
    refine Finset.sum_congr rfl fun k _ => ?_
    rw [mul_comm (V k), mul_assoc, mul_assoc, mul_comm (V k)]

variable {n N : ℕ} (hn : n ≤ N)

/-- A sum over `N` entries that vanish from `n` on is the sum over the first `n`. -/
theorem sum_first (f : Fin N → EReal) (h : ∀ k : Fin N, n ≤ k.val → f k = 0) :
    ∑ k : Fin N, f k = ∑ k : Fin n, f (Fin.castLE hn k) := by
  classical
  rw [← Finset.sum_image (s := Finset.univ) (g := Fin.castLE hn) (f := f)
    (fun a _ b _ hab => Fin.castLE_injective hn hab)]
  refine (Finset.sum_subset (Finset.subset_univ _) fun k _ hk => h k ?_).symm
  by_contra hlt
  exact hk (Finset.mem_image.mpr ⟨⟨k.val, by omega⟩, Finset.mem_univ _, rfl⟩)

/-- A maximum over `N` entries that are `−∞` from `n` on is the maximum over the first `n`. -/
theorem sup_first (f : Fin N → EReal) (h : ∀ k : Fin N, n ≤ k.val → f k = ⊥) :
    (Finset.univ.sup f) = Finset.univ.sup fun k : Fin n => f (Fin.castLE hn k) := by
  refine le_antisymm (Finset.sup_le fun k _ => ?_) (Finset.sup_le fun k _ => Finset.le_sup (Finset.mem_univ _))
  by_cases hk : n ≤ k.val
  · rw [h k hk]; exact bot_le
  · exact Finset.le_sup (f := fun k : Fin n => f (Fin.castLE hn k)) (Finset.mem_univ (⟨k.val, by omega⟩ : Fin n))

/-- The reference's attention of one query to `N` keys: scores `X`, values `V`, a value scale `vs`. -/
def attend (X V : Fin N → EReal) (vs : EReal) : EReal :=
  (∑ k, Ideal.exp (X k - Finset.univ.sup X) * Ideal.div 1 (∑ k, Ideal.exp (X k - Finset.univ.sup X)) * V k) * vs

/-- The kernel's attention of one query to `n` keys, over scaled scores `x`. -/
def attend2 (x V : Fin n → EReal) (vs : EReal) : EReal :=
  (∑ k, V k * Ideal.exp2 (x k - Finset.univ.sup x)) * Ideal.div vs (∑ k, Ideal.exp2 (x k - Finset.univ.sup x))

/-- The kernel's attention to the first `n` keys is the reference's to all `N`, the keys from `n` on being masked. -/
theorem attend_eq (X V : Fin N → EReal) (x W : Fin n → EReal) (vs : EReal)
    (hm : ∀ k : Fin N, n ≤ k.val → X k = ⊥) (hx : ∀ k, x k = X (Fin.castLE hn k) * (L : EReal))
    (hW : ∀ k, W k = V (Fin.castLE hn k)) : attend2 x W vs = attend X V vs := by
  have hM : Finset.univ.sup x = Finset.univ.sup X * (L : EReal) := by
    rw [sup_first hn X hm, ← sup_scaled]; exact Finset.sup_congr rfl fun k _ => hx k
  have he : ∀ k, Ideal.exp2 (x k - Finset.univ.sup x) = Ideal.exp (X (Fin.castLE hn k) - Finset.univ.sup X) := fun k => by
    rw [hM, hx, exp2_scaled]
  have hz : ∀ k : Fin N, n ≤ k.val → Ideal.exp (X k - Finset.univ.sup X) = 0 := fun k hk => by
    rw [hm k hk, sub_eq_add_neg, EReal.bot_add]; rfl
  unfold attend2 attend
  rw [Finset.sum_congr rfl fun k _ => he k,
    Finset.sum_congr (g := fun k => V (Fin.castLE hn k) * Ideal.exp (X (Fin.castLE hn k) - Finset.univ.sup X)) rfl
      fun k _ => by rw [he, hW],
    normalise Finset.univ (fun k => Ideal.exp (X (Fin.castLE hn k) - Finset.univ.sup X)) (fun k => V (Fin.castLE hn k)) vs
      fun k _ => exp_sub_real _ _ (Finset.le_sup (Finset.mem_univ _)),
    sum_first hn (fun k => Ideal.exp (X k - Finset.univ.sup X)) hz,
    sum_first hn (fun k => Ideal.exp (X k - Finset.univ.sup X) * _ * V k)
      (fun k hk => by rw [hz k hk, zero_mul, zero_mul])]

/-- One score: the kernel adds a bias of `0` or `−∞` to the scaled product, the reference selects. -/
theorem score_eq (s sc : EReal) (d : ℝ) (b : Prop) [Decidable b] :
    s * (sc * ((L * d : ℝ) : EReal)) + (if b then 0 else ⊥) = (if b then s * (sc * (d : EReal)) else ⊥) * (L : EReal) := by
  split
  · rw [add_zero, mul_comm L d, EReal.coe_mul, mul_assoc, mul_assoc]
  · rw [EReal.add_bot, EReal.bot_mul_coe_of_pos L_pos]

end Cert.Softmax

end
-- ==== Proof.Spec.lean ====
/- Attention over a vertical-slash mask, as plain mathematics on the argument arrays.

   A query at position `i` sees the key at position `j ≤ i` when `j` is one of the group's first `v_count` vertical
   positions, or `i − j` is one of its first `s_count` slash distances. `out` is the attention result at one index: both
   programs are shown to hold it. -/
module

public import proofs.«01_k».proof.Proof.Softmax
public import Idealize.ShloMosaic.Lib.ValueIdxCore

@[expose] public section

noncomputable section

namespace Cert.Spec

open Idealize.ShloMosaic Idealize.ShloMosaic.ValueIdx

/-- A `max` over a family from `−∞` is its supremum. -/
theorem fold_max {ι : Type} (s : Finset ι) (f : ι → EReal) :
    s.fold (FloatOps.maximumf (F := Ideal) (φ := .f32)) (⊥ : EReal) f = s.sup f := rfl

/-- The literal the masks use is `−∞`. -/
theorem ofBits_negInf : Ideal.ofBits .f32 0xFF800000#32 = (⊥ : EReal) := by simp [Ideal.ofBits, Ideal.ieee]

/-- The literal one. -/
theorem ofBits_one : Ideal.ofBits .f32 0x3F800000#32 = (1 : EReal) := by
  simp [Ideal.ofBits, Ideal.ieee, -EReal.coe_mul]
  norm_num

/-- The literal that is the head size. -/
theorem ofBits_128 : Ideal.ofBits .f32 0x43000000#32 = ((128 : ℝ) : EReal) := by
  simp [Ideal.ofBits, Ideal.ieee, -EReal.coe_mul]
  norm_num

/-- The query head `r` of the key head `g`. -/
def head (g : Fin 8) (r : Fin 6) : Fin 48 := ⟨g.val * 6 + r.val, by have := g.isLt; have := r.isLt; omega⟩

variable (q : (⟨4, ![2, 768, 48, 128]⟩ : Shape).Idx → EReal) (qs : (⟨2, ![2, 48]⟩ : Shape).Idx → EReal)
  (k : (⟨4, ![2, 768, 8, 128]⟩ : Shape).Idx → EReal) (ks : (⟨2, ![2, 8]⟩ : Shape).Idx → EReal)
  (v : (⟨4, ![2, 768, 8, 128]⟩ : Shape).Idx → EReal) (vs : (⟨2, ![2, 8]⟩ : Shape).Idx → EReal)
  (vIdx : (⟨3, ![2, 8, 150]⟩ : Shape).Idx → BitVec 32) (vCount : (⟨2, ![2, 8]⟩ : Shape).Idx → BitVec 32)
  (sOff : (⟨3, ![2, 8, 260]⟩ : Shape).Idx → BitVec 32) (sCount : (⟨2, ![2, 8]⟩ : Shape).Idx → BitVec 32)

/-- The position `j` is one of the group's counted vertical positions. -/
def vertical (b : Fin 2) (g : Fin 8) (j : Nat) : Prop :=
  ∃ n : Fin 150, vIdx (ix3 b g n) = BitVec.ofNat 32 j ∧ (BitVec.ofNat 32 n.val).toInt < (vCount (ix2 b g)).toInt

/-- The distance `d` is one of the group's counted slash distances. -/
def slash (b : Fin 2) (g : Fin 8) (d : Nat) : Prop :=
  ∃ n : Fin 260, sOff (ix3 b g n) = BitVec.ofNat 32 d ∧ (BitVec.ofNat 32 n.val).toInt < (sCount (ix2 b g)).toInt

/-- The query at position `i` sees the key at position `j`. -/
def visible (b : Fin 2) (g : Fin 8) (i j : Fin 768) : Prop :=
  (slash sOff sCount b g (i.val - j.val) ∨ vertical vIdx vCount b g j.val) ∧ j.val ≤ i.val

/-- The inner product of a query row and a key row. -/
def dotQK (b : Fin 2) (g : Fin 8) (r : Fin 6) (i j : Fin 768) : EReal :=
  ∑ d : Fin 128, k (ix4 b j g d) * q (ix4 b i (head g r) d)

open Classical in
/-- The masked score of one query and one key. -/
def score (b : Fin 2) (g : Fin 8) (r : Fin 6) (i j : Fin 768) : EReal :=
  if visible vIdx vCount sOff sCount b g i j then
    dotQK q k b g r i j * (qs (ix2 b (head g r)) * ks (ix2 b g) * (((Real.sqrt 128)⁻¹ : ℝ) : EReal))
  else ⊥

/-- The attention result for one query, head and feature. -/
def out (b : Fin 2) (i : Fin 768) (g : Fin 8) (r : Fin 6) (d : Fin 128) : EReal :=
  Softmax.attend (fun j : Fin 768 => score q qs k ks vIdx vCount sOff sCount b g r i j)
    (fun j : Fin 768 => v (ix4 b j g d)) (vs (ix2 b g))

/-- The attention result at an index of the output array, whose last axis runs over group, head and feature. -/
def outAt (y : (⟨3, ![2, 768, 6144]⟩ : Shape).Idx) : EReal :=
  out q qs k ks v vs vIdx vCount sOff sCount ⟨(y 0).val, (y 0).isLt⟩ ⟨(y 1).val, (y 1).isLt⟩
    ⟨(y 2).val / 768, by have h : (y 2).val < 6144 := (y 2).isLt; omega⟩ ⟨(y 2).val / 128 % 6, by omega⟩
    ⟨(y 2).val % 128, by omega⟩

/-- The attention result of equal arrays. -/
theorem outAt_congr {q q' qs qs' k k' ks ks' v v' vs vs' vIdx vIdx' vCount vCount' sOff sOff' sCount sCount'}
    (h0 : q = q') (h1 : qs = qs') (h2 : k = k') (h3 : ks = ks') (h4 : v = v') (h5 : vs = vs') (h6 : vIdx = vIdx')
    (h7 : vCount = vCount') (h8 : sOff = sOff') (h9 : sCount = sCount') :
    outAt q qs k ks v vs vIdx vCount sOff sCount = outAt q' qs' k' ks' v' vs' vIdx' vCount' sOff' sCount' := by
  subst h0 h1 h2 h3 h4 h5 h6 h7 h8 h9
  rfl

end Cert.Spec
-- ==== Proof.Tile.lean ====
/- What one tile of the kernel computes: 128 queries of two heads against the first `n` keys.

   The tile is stated once for every number of keys `n`; the kernel uses the multiples of 128 up to 768. The scores stand
   with the keys along the rows and the two heads' queries side by side along the lanes. -/
module

public import proofs.«01_k».proof.Proof.Spec
public import proofs.«01_k».proof.Proof.Gen.KernelIdeal
public import Idealize.ShloMosaic.Lib.MatmulPlain
public import Idealize.ShloMosaic.Lib.Pipeline.Value

@[expose] public section

set_option maxRecDepth 16384

noncomputable section

namespace Cert.Tile

open Cert.KernelIdeal Cert.KernelIdeal.Gen Idealize.ShloMosaic Idealize.ShloMosaic.ValueIdx

/-- A matrix shape. -/
abbrev V2 (n k : Nat) : Shape := ⟨2, ![n, k]⟩

variable {n : Nat}

/-- The scores of a tile: key rows against two heads' query rows, scaled per head, with the mask's bias added. -/
def logits (hk : (⟨4, ![1, 1, n, 128]⟩ : Shape).ShapeCasts (V2 n 128)) (hb : S1x256.Broadcasts (V2 n 256))
    (hc : Shape.Concatenates [V2 n 128, V2 n 128] (V2 n 256) 1)
    (q0 q1 : FVec Ideal S1x128x128 .fp8e4m3) (kb : FVec Ideal ⟨4, ![1, 1, n, 128]⟩ .fp8e4m3) (s0 s1 : Ideal .f32)
    (bias : FVec Ideal (V2 n 128) .f32) : FVec Ideal (V2 n 256) .f32 :=
  addf
    (mulf
      (matmul (DotDims.transposedRhs n 128 256) none (shapeCast (V2 n 128) kb hk)
        (concatenate S256x128 0 [⟨S128x128, shapeCast S128x128 q0 shapeCasts_S1x128x128_S128x128⟩,
          ⟨S128x128, shapeCast S128x128 q1 shapeCasts_S1x128x128_S128x128⟩] concatenates_S128x128_S128x128_S256x128_d0)
        (constant (V2 n 256) .f32 0x00000000#32))
      (broadcastTo (V2 n 256)
        (concatenate S1x256 1 [⟨S1x128, broadcast S1x128 s0⟩, ⟨S1x128, broadcast S1x128 s1⟩]
          concatenates_S1x128_S1x128_S1x256_d1) hb))
    (concatenate (V2 n 256) 1 [⟨V2 n 128, bias⟩, ⟨V2 n 128, bias⟩] hc)

section
variable (hk : (⟨4, ![1, 1, n, 128]⟩ : Shape).ShapeCasts (V2 n 128)) (hb : S1x256.Broadcasts (V2 n 256))
    (hc : Shape.Concatenates [V2 n 128, V2 n 128] (V2 n 256) 1)
    (q0 q1 : FVec Ideal S1x128x128 .fp8e4m3) (kb : FVec Ideal ⟨4, ![1, 1, n, 128]⟩ .fp8e4m3) (s0 s1 : Ideal .f32)
    (bias : FVec Ideal (V2 n 128) .f32)

/-- A score in terms of what the two side-by-side operands hold at its lane. -/
theorem logits_at (k : Fin n) (r : Fin 256) (q : Fin 128 → EReal) (s b : EReal)
    (hq : ∀ e : Fin 128, concatenate S256x128 0 [⟨S128x128, shapeCast S128x128 q0 shapeCasts_S1x128x128_S128x128⟩,
          ⟨S128x128, shapeCast S128x128 q1 shapeCasts_S1x128x128_S128x128⟩] concatenates_S128x128_S128x128_S256x128_d0
          (ix2 r e) = q e)
    (hs : concatenate S1x256 1 [⟨S1x128, broadcast S1x128 s0⟩, ⟨S1x128, broadcast S1x128 s1⟩]
          concatenates_S1x128_S1x128_S1x256_d1 (ix2 (0 : Fin 1) r) = s)
    (hbias : concatenate (V2 n 256) 1 [⟨V2 n 128, bias⟩, ⟨V2 n 128, bias⟩] hc (ix2 k r) = b) :
    logits hk hb hc q0 q1 kb s0 s1 bias (ix2 k r) = (∑ e : Fin 128, kb (ix4 0 0 k e) * q e) * s + b := by
  have hm : matmul (DotDims.transposedRhs n 128 256) none (shapeCast (V2 n 128) kb hk)
        (concatenate S256x128 0 [⟨S128x128, shapeCast S128x128 q0 shapeCasts_S1x128x128_S128x128⟩,
          ⟨S128x128, shapeCast S128x128 q1 shapeCasts_S1x128x128_S128x128⟩] concatenates_S128x128_S128x128_S256x128_d0)
        (constant (V2 n 256) .f32 0x00000000#32) (ix2 k r) = ∑ e : Fin 128, kb (ix4 0 0 k e) * q e := by
    refine (Ideal.matmul_transposedRhs_apply none _ _ _ k r).trans ?_
    have hz : constant (F := Ideal) (V2 n 256) .f32 0x00000000#32 (ix2 k r) = (0 : EReal) := Ideal.ofBits_zero_f32
    rw [hz, zero_add]
    refine Finset.sum_congr rfl fun e _ => ?_
    rw [hq e]
    refine congrArg (· * q e) (shapeCast_apply kb hk _ _ ?_)
    rw [Shape.rowMajor_val_four, Shape.rowMajor_val_two]
    show ((0 * 1 + 0) * n + k.val) * 128 + e.val = k.val * 128 + e.val
    omega
  have hsc : broadcastTo (V2 n 256)
        (concatenate S1x256 1 [⟨S1x128, broadcast S1x128 s0⟩, ⟨S1x128, broadcast S1x128 s1⟩]
          concatenates_S1x128_S1x128_S1x256_d1) hb (ix2 k r) = s := by
    refine (broadcastTo_apply _ hb (ix2 k r) (ix2 (0 : Fin 1) r) fun a => ?_).trans hs
    match a with
    | ⟨0, _⟩ => rfl
    | ⟨1, _⟩ => rfl
  show _ * _ + _ = _
  exact congrArg₂ (· + ·) (congrArg₂ (· * ·) hm hsc) hbias

/-- A score of the first head. -/
theorem logits_left (k : Fin n) (i : Fin 128) :
    logits hk hb hc q0 q1 kb s0 s1 bias (ix2 k ⟨i.val, by omega⟩)
      = (∑ e : Fin 128, kb (ix4 0 0 k e) * q0 (ix3 0 i e)) * s0 + bias (ix2 k i) := by
  refine logits_at hk hb hc q0 q1 kb s0 s1 bias k _ (fun e => q0 (ix3 0 i e)) s0 _ (fun e => ?_) ?_ ?_
  · refine (concatenate_pair_apply_left (t := S256x128) (s₁ := S128x128) (s₂ := S128x128) 0 _ _ _ _ rfl (ix2 i e) fun b => ?_).trans
      (shapeCast_apply q0 _ _ _ ?_)
    · match b with
      | ⟨0, _⟩ => rfl
      | ⟨1, _⟩ => rfl
    · rw [Shape.rowMajor_val_three, Shape.rowMajor_val_two]
      show (0 * 128 + i.val) * 128 + e.val = i.val * 128 + e.val
      omega
  · refine (concatenate_pair_apply_left (t := S1x256) (s₁ := S1x128) (s₂ := S1x128) 1 _ _ _ _ rfl (ix2 (0 : Fin 1) i) fun b => ?_)
    match b with
    | ⟨0, _⟩ => rfl
    | ⟨1, _⟩ => rfl
  · refine (concatenate_pair_apply_left (t := V2 n 256) (s₁ := V2 n 128) (s₂ := V2 n 128) 1 _ _ _ _ rfl (ix2 k i) fun b => ?_)
    match b with
    | ⟨0, _⟩ => rfl
    | ⟨1, _⟩ => rfl

/-- A score of the second head. -/
theorem logits_right (k : Fin n) (i : Fin 128) :
    logits hk hb hc q0 q1 kb s0 s1 bias (ix2 k ⟨128 + i.val, by omega⟩)
      = (∑ e : Fin 128, kb (ix4 0 0 k e) * q1 (ix3 0 i e)) * s1 + bias (ix2 k i) := by
  refine logits_at hk hb hc q0 q1 kb s0 s1 bias k _ (fun e => q1 (ix3 0 i e)) s1 _ (fun e => ?_) ?_ ?_
  · refine (concatenate_pair_apply_right (t := S256x128) (s₁ := S128x128) (s₂ := S128x128) 0 _ _ _ _ rfl rfl (ix2 i e) (fun b hb => ?_) ?_).trans
      (shapeCast_apply q1 _ _ _ ?_)
    · match b with
      | ⟨0, _⟩ => exact absurd rfl hb
      | ⟨1, _⟩ => rfl
    · exact Nat.add_comm _ _
    · rw [Shape.rowMajor_val_three, Shape.rowMajor_val_two]
      show (0 * 128 + i.val) * 128 + e.val = i.val * 128 + e.val
      omega
  · refine (concatenate_pair_apply_right (t := S1x256) (s₁ := S1x128) (s₂ := S1x128) 1 _ _ _ _ rfl rfl (ix2 (0 : Fin 1) i) (fun b hb => ?_) ?_)
    · match b with
      | ⟨0, _⟩ => rfl
      | ⟨1, _⟩ => exact absurd rfl hb
    · exact Nat.add_comm _ _
  · refine (concatenate_pair_apply_right (t := V2 n 256) (s₁ := V2 n 128) (s₂ := V2 n 128) 1 _ _ _ _ rfl rfl (ix2 k i) (fun b hb => ?_) ?_)
    · match b with
      | ⟨0, _⟩ => rfl
      | ⟨1, _⟩ => exact absurd rfl hb
    · exact Nat.add_comm _ _

end

/-- Base-2 exponentials of the scores less their largest, per lane. -/
def weights (hb : S1x256.Broadcasts (V2 n 256)) (hr : (V2 n 256).Reduces [0] S256) (x : FVec Ideal (V2 n 256) .f32) :
    FVec Ideal (V2 n 256) .f32 :=
  exp2 (subf x (broadcastTo (V2 n 256) (shapeCast S1x256
    (multiReduction .maximumf [0] S256 x 0xFF800000#32 hr (.inl rfl) rfl) shapeCasts_S256_S1x256) hb))

/-- The attention of a tile from its scores: a query per row, a feature per lane. -/
def tile (hb : S1x256.Broadcasts (V2 n 256)) (hr : (V2 n 256).Reduces [0] S256) (x : FVec Ideal (V2 n 256) .f32)
    (vt : FVec Ideal (V2 128 n) .bf16) (vs : Ideal .f32) : FVec Ideal S256x128 .bf16 :=
  truncf .bf16 (transpose S256x128 [1, 0]
    (mulf (matmul (DotDims.plain 128 n 256) none vt (truncf .bf16 (weights hb hr x) bitsLt_bf16_f32)
        (constant S128x256 .f32 0x00000000#32))
      (broadcastTo S128x256 (divf (broadcast S1x256 vs) (shapeCast S1x256
        (multiReduction .add [0] S256 (weights hb hr x) 0x00000000#32 hr (.inl rfl) rfl) shapeCasts_S256_S1x256))
        broadcasts_S1x256_S128x256)) transposes_S128x256_p1_0_S256x128) bitsLt_bf16_f32

section
variable (hb : S1x256.Broadcasts (V2 n 256)) (hr : (V2 n 256).Reduces [0] S256) (x : FVec Ideal (V2 n 256) .f32)
  (vt : FVec Ideal (V2 128 n) .bf16) (vs : Ideal .f32)

/-- The index a reduction over the keys reads. -/
theorem lift_keys (r : Fin 256) (k : Fin n) : hr.lift (ix1 r) k = ix2 k r :=
  funext fun a => Fin.ext (match a with
    | ⟨0, _⟩ => rfl
    | ⟨1, _⟩ => rfl)

/-- A row vector read at a lane. -/
theorem row_apply (y : FVec Ideal S256 .f32) (r : Fin 256) :
    shapeCast S1x256 y shapeCasts_S256_S1x256 (ix2 (0 : Fin 1) r) = y (ix1 r) := by
  refine shapeCast_apply y _ _ _ ?_
  rw [Shape.rowMajor_val_one, Shape.rowMajor_val_two]
  show r.val = 0 * 256 + r.val
  omega

/-- A weight. -/
theorem weights_apply (k : Fin n) (r : Fin 256) :
    weights hb hr x (ix2 k r)
      = Ideal.exp2 (x (ix2 k r) - Finset.univ.sup (fun k' : Fin n => x (ix2 k' r))) := by
  have hm : broadcastTo (V2 n 256) (shapeCast S1x256
      (multiReduction .maximumf [0] S256 x 0xFF800000#32 hr (.inl rfl) rfl) shapeCasts_S256_S1x256) hb (ix2 k r)
      = Finset.univ.sup (fun k' : Fin n => x (ix2 k' r)) := by
    refine (broadcastTo_apply _ hb (ix2 k r) (ix2 (0 : Fin 1) r) fun a => ?_).trans ?_
    · match a with
      | ⟨0, _⟩ => rfl
      | ⟨1, _⟩ => rfl
    · rw [row_apply]
      refine (Ideal.multiReduction_maximumf_single x _ hr (.inl rfl) rfl (ix1 r)).trans ?_
      have hbot : Ideal.ofBits .f32 (FKind.maximumf.neutral .f32 (.inl rfl)) = ⊥ := Spec.ofBits_negInf
      rw [Ideal.ofBits_def, hbot]
      refine (Spec.fold_max _ _).trans ?_
      refine congrArg (Finset.sup Finset.univ) (funext fun k' => ?_)
      exact congrArg x (lift_keys hr r k')
  show Ideal.exp2 (_ - _) = _
  rw [hm]

/-- The turned result read at a query and a feature. -/
theorem flip_apply (y : FVec Ideal S128x256 .f32) (r : Fin 256) (d : Fin 128) :
    truncf .bf16 (transpose S256x128 [1, 0] y transposes_S128x256_p1_0_S256x128) bitsLt_bf16_f32 (ix2 r d) = y (ix2 d r) := by
  show (transpose S256x128 [1, 0] y transposes_S128x256_p1_0_S256x128 : FVec Ideal S256x128 .f32) (ix2 r d) = y (ix2 d r)
  refine transpose_apply [1, 0] y transposes_S128x256_p1_0_S256x128 (ix2 r d) (ix2 d r) fun b => ?_
  match b with
  | ⟨0, _⟩ => rfl
  | ⟨1, _⟩ => rfl

/-- The tile's attention, for a query and a feature, is the two-exponential attention over the first `n` keys. -/
theorem tile_apply (r : Fin 256) (d : Fin 128) :
    tile hb hr x vt vs (ix2 r d) = Softmax.attend2 (fun k : Fin n => x (ix2 k r)) (fun k : Fin n => vt (ix2 d k)) vs := by
  have hsum : multiReduction .add [0] S256 (weights hb hr x) 0x00000000#32 hr (.inl rfl) rfl (ix1 r)
      = ∑ k : Fin n, Ideal.exp2 (x (ix2 k r) - Finset.univ.sup (fun k' : Fin n => x (ix2 k' r))) := by
    refine (Ideal.multiReduction_add_single (weights hb hr x) _ hr (.inl rfl) rfl (ix1 r)).trans ?_
    refine Finset.sum_congr rfl fun k _ => ?_
    exact (congrArg (weights hb hr x) (lift_keys hr r k)).trans (weights_apply hb hr x k r)
  have hdiv : broadcastTo S128x256 (divf (broadcast S1x256 vs) (shapeCast S1x256
        (multiReduction .add [0] S256 (weights hb hr x) 0x00000000#32 hr (.inl rfl) rfl) shapeCasts_S256_S1x256))
        broadcasts_S1x256_S128x256 (ix2 d r)
      = Ideal.div vs (∑ k : Fin n, Ideal.exp2 (x (ix2 k r) - Finset.univ.sup (fun k' : Fin n => x (ix2 k' r)))) := by
    refine (broadcastTo_apply _ broadcasts_S1x256_S128x256 (ix2 d r) (ix2 (0 : Fin 1) r) fun a => ?_).trans ?_
    · match a with
      | ⟨0, _⟩ => rfl
      | ⟨1, _⟩ => rfl
    · show Ideal.div vs _ = _
      rw [row_apply, hsum]
  have hmat : matmul (DotDims.plain 128 n 256) none vt (truncf .bf16 (weights hb hr x) bitsLt_bf16_f32)
        (constant S128x256 .f32 0x00000000#32) (ix2 d r)
      = ∑ k : Fin n, vt (ix2 d k) * Ideal.exp2 (x (ix2 k r) - Finset.univ.sup (fun k' : Fin n => x (ix2 k' r))) := by
    refine (Ideal.matmul_plain_apply none _ _ _ d r).trans ?_
    have hz : constant (F := Ideal) S128x256 .f32 0x00000000#32 (ix2 d r) = (0 : EReal) := Ideal.ofBits_zero_f32
    rw [hz, zero_add]
    refine Finset.sum_congr rfl fun k _ => ?_
    exact congrArg (vt (ix2 d k) * ·) (weights_apply hb hr x k r)
  refine Eq.trans ?_ (congrArg₂ (· * ·) hmat hdiv)
  exact flip_apply _ r d

end

end Cert.Tile
-- ==== Proof.Block.lean ====
/- What one piece of the kernel's output block holds, from what the operands of its tile hold.

   `blockOut` is the attention of one grid step over the step's blocks. `piece_left` and `piece_right` say that the two
   halves of a tile, as the kernel computes and stores them, hold it. -/
module

public import proofs.«01_k».proof.Proof.Tile
public import Idealize.ShloMosaic.Lib.Pipeline.ValueKit
public import Idealize.ShloMosaic.Lib.Pipeline.ReadBack

@[expose] public section

set_option maxRecDepth 16384

noncomputable section

namespace Cert.Block

open Cert.KernelIdeal Cert.KernelIdeal.Gen Idealize.ShloMosaic.ValueIdx Cert.Tile
open Idealize.ShloMosaic hiding ix1 ix2 ix3 ix4 ix5

/-- The real that the folded constant stands for. -/
theorem named_scale : Named.named (F := Ideal) (φ := .f32) κ "log2e_inv_sqrt_d" (0x3E0293EE#32)
    = ((Softmax.L * (Real.sqrt 128)⁻¹ : ℝ) : EReal) := by
  exact IdealRules.named_const.ideal_named_scalar _ _ _ _ rfl

/-- A row and a lane of a tile's half. -/
theorem half_apply (z : Nat) (hz : z ≤ 128) (w : FVec Ideal S256x128 .bf16) (hsl : S256x128.Slices ![z, 0] S128x128)
    (x : S1x128x128.Idx) :
    shapeCast S1x128x128 (extractStridedSlice S128x128 ![z, 0] w hsl) shapeCasts_S128x128_S1x128x128 x
      = w (ix2 ⟨z + (x 1).val, by have h : (x 1).val < 128 := (x 1).isLt; omega⟩ (x 2)) := by
  refine (shapeCast_apply _ shapeCasts_S128x128_S1x128x128 x (ix2 (x 1) (x 2)) ?_).trans
    (extractStridedSlice_apply _ w hsl _ _ fun a => ?_)
  · rw [Shape.rowMajor_val_three, Shape.rowMajor_val_two]
    have h0 : (x 0).val < 1 := (x 0).isLt
    show (x 1).val * 128 + (x 2).val = ((x 0).val * 128 + (x 1).val) * 128 + (x 2).val
    omega
  · match a with
    | ⟨0, _⟩ => rfl
    | ⟨1, _⟩ => exact (Nat.zero_add _).symm

variable (Q : S1x768x768.Idx → EReal) (K V : S1x1x768x128.Idx → EReal) (sc : Fin 6 → EReal) (vs : EReal)
  (vis : Fin 768 → Fin 768 → Prop)

open Classical in
/-- The attention of one grid step at a query row and a lane (six heads of 128 features), where `vis j i` says that
    query `i` sees key `j`. -/
def blockOut (y : S1x768x768.Idx) : EReal :=
  Softmax.attend
    (fun j : Fin 768 => if vis j (y 1) then
        (∑ e : Fin 128, K (ix4 0 0 j e) * Q (ix3 0 (y 1)
            ⟨(y 2).val / 128 * 128 + e.val, by have h : (y 2).val < 768 := (y 2).isLt; have := e.isLt; omega⟩))
          * (sc ⟨(y 2).val / 128, by have h : (y 2).val < 768 := (y 2).isLt; omega⟩ * (((Real.sqrt 128)⁻¹ : ℝ) : EReal))
      else ⊥)
    (fun j : Fin 768 => V (ix4 0 0 j ⟨(y 2).val % 128, by omega⟩)) vs

variable {n c o : Nat}

open Classical in
/-- The two-exponential attention over the first `n` keys with the operands' entries is the step's attention. -/
theorem attend2_eq (hn : n ≤ 768) (x : S1x128x128.Idx) (y : S1x768x768.Idx)
    (q : S1x128x128.Idx → EReal) (kb : (⟨4, ![1, 1, n, 128]⟩ : Shape).Idx → EReal) (s : EReal)
    (bias : (V2 n 128).Idx → EReal) (vt : (V2 128 n).Idx → EReal)
    (hq : ∀ e : Fin 128, q (ix3 0 (x 1) e) = Q (ix3 0 (y 1)
            ⟨(y 2).val / 128 * 128 + e.val, by have h : (y 2).val < 768 := (y 2).isLt; have := e.isLt; omega⟩))
    (hk : ∀ (k : Fin n) (e : Fin 128), kb (ix4 0 0 k e) = K (ix4 0 0 (Fin.castLE hn k) e))
    (hs : s = sc ⟨(y 2).val / 128, by have h : (y 2).val < 768 := (y 2).isLt; omega⟩
      * ((Softmax.L * (Real.sqrt 128)⁻¹ : ℝ) : EReal))
    (hb : ∀ k : Fin n, bias (ix2 k (x 1)) = if vis (Fin.castLE hn k) (y 1) then 0 else ⊥)
    (hm : ∀ k : Fin 768, n ≤ k.val → ¬ vis k (y 1))
    (hv : ∀ k : Fin n, vt (ix2 (x 2) k) = V (ix4 0 0 (Fin.castLE hn k) ⟨(y 2).val % 128, by omega⟩)) :
    Softmax.attend2 (fun k : Fin n => (∑ e : Fin 128, kb (ix4 0 0 k e) * q (ix3 0 (x 1) e)) * s + bias (ix2 k (x 1)))
      (fun k : Fin n => vt (ix2 (x 2) k)) vs = blockOut Q K V sc vs vis y := by
  refine Softmax.attend_eq hn _ _ _ _ vs (fun k hk => if_neg (hm k hk)) (fun k => ?_) hv
  rw [hb, hs, Softmax.score_eq]
  refine congrArg (fun z : EReal => (if vis (Fin.castLE hn k) (y 1) then z * _ else ⊥) * _) ?_
  exact Finset.sum_congr rfl fun e _ => congrArg₂ (· * ·) (hk k e) (hq e)

/-- A place within a block of 128 that starts at 640 or before. -/
theorem lt768 (h : c ≤ 640) (i : Fin 128) : c + i.val < 768 := by
  have := i.isLt
  omega

variable (hc768 : ∀ i : Fin 128, c + i.val < 768) (ho768 : ∀ e : Fin 128, o + e.val < 768)

/-- A query tile's load. -/
theorem q_read (inq : ∀ a : Fin 3, (![0, c, o] : Fin 3 → Nat) a + (![1, 128, 128] : Fin 3 → Nat) a ≤ S1x768x768.size a)
    (i e : Fin 128) :
    View.ld (Val := Elt Ideal) (e' := .fp8e4m3) Q (Rect.unit ![0, c, o] ![1, 128, 128] inq) (ix3 0 i e)
      = Q (ix3 0 ⟨c + i.val, hc768 i⟩ ⟨o + e.val, ho768 e⟩) := by
  refine View.ld_unit_apply_of _ _ _ inq _ _ fun a => ?_
  match a with
  | ⟨0, _⟩ => rfl
  | ⟨1, _⟩ => rfl
  | ⟨2, _⟩ => rfl

/-- The load of the first `n` keys. -/
theorem k_read (hn : n ≤ 768)
    (ink : ∀ a : Fin 4, (![0, 0, 0, 0] : Fin 4 → Nat) a + (![1, 1, n, 128] : Fin 4 → Nat) a ≤ S1x1x768x128.size a)
    (k : Fin n) (e : Fin 128) :
    View.ld (Val := Elt Ideal) (e' := .fp8e4m3) K (Rect.unit ![0, 0, 0, 0] ![1, 1, n, 128] ink) (ix4 0 0 k e)
      = K (ix4 0 0 (Fin.castLE hn k) e) := by
  refine View.ld_unit_apply_of _ _ _ ink _ _ fun a => ?_
  match a with
  | ⟨0, _⟩ => rfl
  | ⟨1, _⟩ => rfl
  | ⟨2, _⟩ => exact (Nat.zero_add _).symm
  | ⟨3, _⟩ => exact (Nat.zero_add _).symm

/-- The load of the first `n` columns of the turned values. -/
theorem v_read (LV : List (View.Piece (Elt Ideal) S128x768 .bf16))
    (hLV : ∀ (k : Fin 768) (d : Fin 128), View.canon LV (ix2 d k) = (V (ix4 0 0 k d) : EReal)) (hn : n ≤ 768)
    (inv : ∀ a : Fin 2, (![0, 0] : Fin 2 → Nat) a + (![128, n] : Fin 2 → Nat) a ≤ S128x768.size a)
    (k : Fin n) (d : Fin 128) :
    (View.whole cc0_scratch1).readCov LV (Rect.unit (s := S128x768) ![0, 0] ![128, n] inv).toLoadRect (ix2 d k)
      = (V (ix4 0 0 (Fin.castLE hn k) d) : EReal) := by
  rw [View.readCov_eq_canon']
  refine (congrArg (View.canon LV) (funext fun a => Fin.ext ?_)).trans (hLV (Fin.castLE hn k) d)
  match a with
  | ⟨0, _⟩ => exact (Rect.idx_unit_val _ _ inv _ 0).trans (Nat.zero_add _)
  | ⟨1, _⟩ => exact (Rect.idx_unit_val _ _ inv _ 1).trans (Nat.zero_add _)

open Classical in
/-- The load of the mask's bias for the queries `c, …, c + 127` and the first `n = c + 128` keys. -/
theorem b_read (LB : List (View.Piece (Elt Ideal) S768x768 .f32))
    (hLB : ∀ k i : Fin 768, k.val / 128 ≤ i.val / 128 → View.canon LB (ix2 k i) = (if vis k i then 0 else ⊥ : EReal))
    (hcn : n = c + 128) (hcm : c % 128 = 0) (hn : n ≤ 768)
    (inb : ∀ a : Fin 2, (![0, c] : Fin 2 → Nat) a + (![n, 128] : Fin 2 → Nat) a ≤ S768x768.size a)
    (k : Fin n) (i : Fin 128) :
    (View.whole cc0_scratch0).readCov LB (Rect.unit (s := S768x768) ![0, c] ![n, 128] inb).toLoadRect (ix2 k i)
      = (if vis (Fin.castLE hn k) ⟨c + i.val, hc768 i⟩ then 0 else ⊥ : EReal) := by
  rw [View.readCov_eq_canon']
  refine (congrArg (View.canon LB) (funext fun a => Fin.ext ?_)).trans (hLB (Fin.castLE hn k) ⟨c + i.val, hc768 i⟩ ?_)
  · match a with
    | ⟨0, _⟩ => exact (Rect.idx_unit_val _ _ inb _ 0).trans (Nat.zero_add _)
    | ⟨1, _⟩ => exact (Rect.idx_unit_val _ _ inb _ 1)
  · show k.val / 128 ≤ (c + i.val) / 128
    have := k.isLt
    have := i.isLt
    omega

section
variable (hk : (⟨4, ![1, 1, n, 128]⟩ : Shape).ShapeCasts (V2 n 128)) (hbr : S1x256.Broadcasts (V2 n 256))
    (hc : Shape.Concatenates [V2 n 128, V2 n 128] (V2 n 256) 1) (hr : (V2 n 256).Reduces [0] S256)

open Classical in
/-- The first half of a tile holds the step's attention. -/
theorem piece_left (hn : n ≤ 768) (hcn : n = c + 128)
    (hvis : ∀ k i : Fin 768, vis k i → k.val ≤ i.val) (P : FVec Ideal S1x128x128 .bf16) (x : S1x128x128.Idx) (y : S1x768x768.Idx)
    (hx1 : (y 1).val = c + (x 1).val) (hx2 : (y 2).val = o + (x 2).val) (r : Fin 6) (ho : o = 128 * r.val)
    (q0 q1 : FVec Ideal S1x128x128 .fp8e4m3) (kb : FVec Ideal ⟨4, ![1, 1, n, 128]⟩ .fp8e4m3) (w0 w1 : Ideal .f32)
    (bias : FVec Ideal (V2 n 128) .f32) (vt : FVec Ideal (V2 128 n) .bf16) (hsl : S256x128.Slices ![0, 0] S128x128)
    (hP : P = shapeCast S1x128x128 (extractStridedSlice S128x128 ![0, 0]
      (tile hbr hr (logits hk hbr hc q0 q1 kb (Scalar.mulf w0 (Named.named κ "log2e_inv_sqrt_d" 0x3E0293EE#32))
        (Scalar.mulf w1 (Named.named κ "log2e_inv_sqrt_d" 0x3E0293EE#32)) bias) vt vs) hsl)
      shapeCasts_S128x128_S1x128x128)
    (hq : ∀ i e : Fin 128, q0 (ix3 0 i e) = Q (ix3 0 ⟨c + i.val, hc768 i⟩ ⟨o + e.val, ho768 e⟩))
    (hkb : ∀ (k : Fin n) (e : Fin 128), kb (ix4 0 0 k e) = K (ix4 0 0 (Fin.castLE hn k) e))
    (hs : w0 = sc r)
    (hb : ∀ (k : Fin n) (i : Fin 128), bias (ix2 k i) = if vis (Fin.castLE hn k) ⟨c + i.val, hc768 i⟩ then 0 else ⊥)
    (hv : ∀ (k : Fin n) (d : Fin 128), vt (ix2 d k) = V (ix4 0 0 (Fin.castLE hn k) d)) :
    P x = blockOut Q K V sc vs vis y := by
  have l2 : (x 2).val < 128 := (x 2).isLt
  have hy1 : (⟨c + (x 1).val, hc768 (x 1)⟩ : Fin 768) = y 1 := Fin.ext hx1.symm
  rw [hP]
  refine (half_apply 0 (by omega) _ hsl x).trans ?_
  refine (tile_apply hbr hr _ vt vs _ (x 2)).trans ?_
  have hrow : (⟨0 + (x 1).val, by have h : (x 1).val < 128 := (x 1).isLt; omega⟩ : Fin 256)
      = ⟨(x 1).val, by have h : (x 1).val < 128 := (x 1).isLt; omega⟩ := Fin.ext (by simp)
  rw [hrow]
  refine (congrArg (fun f => Softmax.attend2 f _ vs) (funext fun k =>
    logits_left hk hbr hc _ _ _ _ _ bias k (x 1))).trans ?_
  refine attend2_eq Q K V sc vs vis hn x y _ _ _ bias vt (fun e => ?_) hkb ?_ (fun k => ?_) (fun k hnk hvk => ?_) (fun k => ?_)
  · refine (hq (x 1) e).trans (congrArg₂ (fun i l => Q (ix3 0 i l)) hy1 (Fin.ext ?_))
    show o + e.val = (y 2).val / 128 * 128 + e.val
    omega
  · rw [named_scale, hs]
    refine congrArg (fun r => sc r * _) (Fin.ext ?_)
    show r.val = (y 2).val / 128
    omega
  · exact (hb k (x 1)).trans (congrArg (fun i => if vis (Fin.castLE hn k) i then (0 : EReal) else ⊥) hy1)
  · have := hvis _ _ hvk
    have : (x 1).val < 128 := (x 1).isLt
    omega
  · refine (hv k (x 2)).trans (congrArg (fun d => V (ix4 0 0 (Fin.castLE hn k) d)) (Fin.ext ?_))
    show (x 2).val = (y 2).val % 128
    omega

open Classical in
/-- The second half of a tile holds the step's attention. -/
theorem piece_right (hn : n ≤ 768) (hcn : n = c + 128)
    (hvis : ∀ k i : Fin 768, vis k i → k.val ≤ i.val) (P : FVec Ideal S1x128x128 .bf16) (x : S1x128x128.Idx) (y : S1x768x768.Idx)
    (hx1 : (y 1).val = c + (x 1).val) (hx2 : (y 2).val = o + (x 2).val) (r : Fin 6) (ho : o = 128 * r.val)
    (q0 q1 : FVec Ideal S1x128x128 .fp8e4m3) (kb : FVec Ideal ⟨4, ![1, 1, n, 128]⟩ .fp8e4m3) (w0 w1 : Ideal .f32)
    (bias : FVec Ideal (V2 n 128) .f32) (vt : FVec Ideal (V2 128 n) .bf16) (hsl : S256x128.Slices ![128, 0] S128x128)
    (hP : P = shapeCast S1x128x128 (extractStridedSlice S128x128 ![128, 0]
      (tile hbr hr (logits hk hbr hc q0 q1 kb (Scalar.mulf w0 (Named.named κ "log2e_inv_sqrt_d" 0x3E0293EE#32))
        (Scalar.mulf w1 (Named.named κ "log2e_inv_sqrt_d" 0x3E0293EE#32)) bias) vt vs) hsl)
      shapeCasts_S128x128_S1x128x128)
    (hq : ∀ i e : Fin 128, q1 (ix3 0 i e) = Q (ix3 0 ⟨c + i.val, hc768 i⟩ ⟨o + e.val, ho768 e⟩))
    (hkb : ∀ (k : Fin n) (e : Fin 128), kb (ix4 0 0 k e) = K (ix4 0 0 (Fin.castLE hn k) e))
    (hs : w1 = sc r)
    (hb : ∀ (k : Fin n) (i : Fin 128), bias (ix2 k i) = if vis (Fin.castLE hn k) ⟨c + i.val, hc768 i⟩ then 0 else ⊥)
    (hv : ∀ (k : Fin n) (d : Fin 128), vt (ix2 d k) = V (ix4 0 0 (Fin.castLE hn k) d)) :
    P x = blockOut Q K V sc vs vis y := by
  have l2 : (x 2).val < 128 := (x 2).isLt
  have hy1 : (⟨c + (x 1).val, hc768 (x 1)⟩ : Fin 768) = y 1 := Fin.ext hx1.symm
  rw [hP]
  refine (half_apply 128 (by omega) _ hsl x).trans ?_
  refine (tile_apply hbr hr _ vt vs _ (x 2)).trans ?_
  have hrow : (⟨128 + (x 1).val, by have h : (x 1).val < 128 := (x 1).isLt; omega⟩ : Fin 256)
      = ⟨128 + (x 1).val, by have h : (x 1).val < 128 := (x 1).isLt; omega⟩ := Fin.ext (by rfl)
  rw [hrow]
  refine (congrArg (fun f => Softmax.attend2 f _ vs) (funext fun k =>
    logits_right hk hbr hc _ _ _ _ _ bias k (x 1))).trans ?_
  refine attend2_eq Q K V sc vs vis hn x y _ _ _ bias vt (fun e => ?_) hkb ?_ (fun k => ?_) (fun k hnk hvk => ?_) (fun k => ?_)
  · refine (hq (x 1) e).trans (congrArg₂ (fun i l => Q (ix3 0 i l)) hy1 (Fin.ext ?_))
    show o + e.val = (y 2).val / 128 * 128 + e.val
    omega
  · rw [named_scale, hs]
    refine congrArg (fun r => sc r * _) (Fin.ext ?_)
    show r.val = (y 2).val / 128
    omega
  · exact (hb k (x 1)).trans (congrArg (fun i => if vis (Fin.castLE hn k) i then (0 : EReal) else ⊥) hy1)
  · have := hvis _ _ hvk
    have : (x 1).val < 128 := (x 1).isLt
    omega
  · refine (hv k (x 2)).trans (congrArg (fun d => V (ix4 0 0 (Fin.castLE hn k) d)) (Fin.ext ?_))
    show (x 2).val = (y 2).val % 128
    omega

end

/-! ## The pieces over part of the keys, as they are loaded -/

section
variable {Q K V sc vs vis}

open Classical in
/-- The first half of a tile whose keys are read from the front of the block. -/
theorem loaded_left {LB : List (View.Piece (Elt Ideal) S768x768 .f32)} {LV : List (View.Piece (Elt Ideal) S128x768 .bf16)}
    (hvis : ∀ k i : Fin 768, vis k i → k.val ≤ i.val)
    (hLB : ∀ k i : Fin 768, k.val / 128 ≤ i.val / 128 → View.canon LB (ix2 k i) = (if vis k i then 0 else ⊥ : EReal))
    (hLV : ∀ (k : Fin 768) (d : Fin 128), View.canon LV (ix2 d k) = (V (ix4 0 0 k d) : EReal))
    (n c o : Nat) (r : Fin 6) {q1 : FVec Ideal S1x128x128 .fp8e4m3} {w0 w1 : Ideal .f32} {x : S1x128x128.Idx} {y : S1x768x768.Idx}
    {inq : ∀ a : Fin 3, (![0, c, o] : Fin 3 → Nat) a + (![1, 128, 128] : Fin 3 → Nat) a ≤ S1x768x768.size a}
    {ink : ∀ a : Fin 4, (![0, 0, 0, 0] : Fin 4 → Nat) a + (![1, 1, n, 128] : Fin 4 → Nat) a ≤ S1x1x768x128.size a}
    {inb : ∀ a : Fin 2, (![0, c] : Fin 2 → Nat) a + (![n, 128] : Fin 2 → Nat) a ≤ S768x768.size a}
    {inv : ∀ a : Fin 2, (![0, 0] : Fin 2 → Nat) a + (![128, n] : Fin 2 → Nat) a ≤ S128x768.size a}
    {P : FVec Ideal S1x128x128 .bf16}
    (hs : w0 = sc r) (hx1 : (y 1).val = c + (x 1).val) (hx2 : (y 2).val = o + (x 2).val)
    (hk : (⟨4, ![1, 1, n, 128]⟩ : Shape).ShapeCasts (V2 n 128)) (hbr : S1x256.Broadcasts (V2 n 256))
    (hc : Shape.Concatenates [V2 n 128, V2 n 128] (V2 n 256) 1) (hr : (V2 n 256).Reduces [0] S256)
    (hP : P = shapeCast S1x128x128 (extractStridedSlice S128x128 ![0, 0]
      (tile hbr hr (logits hk hbr hc (View.ld (Val := Elt Ideal) (e' := .fp8e4m3) Q (Rect.unit ![0, c, o] ![1, 128, 128] inq)) q1
          (View.ld (Val := Elt Ideal) (e' := .fp8e4m3) K (Rect.unit ![0, 0, 0, 0] ![1, 1, n, 128] ink))
          (Scalar.mulf w0 (Named.named κ "log2e_inv_sqrt_d" 0x3E0293EE#32))
          (Scalar.mulf w1 (Named.named κ "log2e_inv_sqrt_d" 0x3E0293EE#32))
          ((View.whole cc0_scratch0).readCov LB (Rect.unit (s := S768x768) ![0, c] ![n, 128] inb).toLoadRect))
        ((View.whole cc0_scratch1).readCov LV (Rect.unit (s := S128x768) ![0, 0] ![128, n] inv).toLoadRect) vs)
      slices_S256x128_o0_0_S128x128) shapeCasts_S128x128_S1x128x128)
    (hcn : n = c + 128 := by decide) (hcm : c % 128 = 0 := by decide) (hn : n ≤ 768 := by decide)
    (hro : o = 128 * r.val := by decide) : P x = blockOut Q K V sc vs vis y :=
  piece_left Q K V sc vs vis (lt768 (by omega)) (lt768 (by have := r.isLt; omega)) hk hbr hc hr hn hcn hvis P x y hx1 hx2 r hro
    _ q1 _ w0 w1 _ _ _ hP (q_read _ _ _ _) (k_read _ _ _) hs (b_read vis _ LB hLB hcn hcm _ _) (v_read _ LV hLV _ _)

open Classical in
/-- The second half of a tile whose keys are read from the front of the block. -/
theorem loaded_right {LB : List (View.Piece (Elt Ideal) S768x768 .f32)} {LV : List (View.Piece (Elt Ideal) S128x768 .bf16)}
    (hvis : ∀ k i : Fin 768, vis k i → k.val ≤ i.val)
    (hLB : ∀ k i : Fin 768, k.val / 128 ≤ i.val / 128 → View.canon LB (ix2 k i) = (if vis k i then 0 else ⊥ : EReal))
    (hLV : ∀ (k : Fin 768) (d : Fin 128), View.canon LV (ix2 d k) = (V (ix4 0 0 k d) : EReal))
    (n c o : Nat) (r : Fin 6) {q0 : FVec Ideal S1x128x128 .fp8e4m3} {w0 w1 : Ideal .f32} {x : S1x128x128.Idx} {y : S1x768x768.Idx}
    {inq : ∀ a : Fin 3, (![0, c, o] : Fin 3 → Nat) a + (![1, 128, 128] : Fin 3 → Nat) a ≤ S1x768x768.size a}
    {ink : ∀ a : Fin 4, (![0, 0, 0, 0] : Fin 4 → Nat) a + (![1, 1, n, 128] : Fin 4 → Nat) a ≤ S1x1x768x128.size a}
    {inb : ∀ a : Fin 2, (![0, c] : Fin 2 → Nat) a + (![n, 128] : Fin 2 → Nat) a ≤ S768x768.size a}
    {inv : ∀ a : Fin 2, (![0, 0] : Fin 2 → Nat) a + (![128, n] : Fin 2 → Nat) a ≤ S128x768.size a}
    {P : FVec Ideal S1x128x128 .bf16}
    (hs : w1 = sc r) (hx1 : (y 1).val = c + (x 1).val) (hx2 : (y 2).val = o + (x 2).val)
    (hk : (⟨4, ![1, 1, n, 128]⟩ : Shape).ShapeCasts (V2 n 128)) (hbr : S1x256.Broadcasts (V2 n 256))
    (hc : Shape.Concatenates [V2 n 128, V2 n 128] (V2 n 256) 1) (hr : (V2 n 256).Reduces [0] S256)
    (hP : P = shapeCast S1x128x128 (extractStridedSlice S128x128 ![128, 0]
      (tile hbr hr (logits hk hbr hc q0 (View.ld (Val := Elt Ideal) (e' := .fp8e4m3) Q (Rect.unit ![0, c, o] ![1, 128, 128] inq))
          (View.ld (Val := Elt Ideal) (e' := .fp8e4m3) K (Rect.unit ![0, 0, 0, 0] ![1, 1, n, 128] ink))
          (Scalar.mulf w0 (Named.named κ "log2e_inv_sqrt_d" 0x3E0293EE#32))
          (Scalar.mulf w1 (Named.named κ "log2e_inv_sqrt_d" 0x3E0293EE#32))
          ((View.whole cc0_scratch0).readCov LB (Rect.unit (s := S768x768) ![0, c] ![n, 128] inb).toLoadRect))
        ((View.whole cc0_scratch1).readCov LV (Rect.unit (s := S128x768) ![0, 0] ![128, n] inv).toLoadRect) vs)
      slices_S256x128_o128_0_S128x128) shapeCasts_S128x128_S1x128x128)
    (hcn : n = c + 128 := by decide) (hcm : c % 128 = 0 := by decide) (hn : n ≤ 768 := by decide)
    (hro : o = 128 * r.val := by decide) : P x = blockOut Q K V sc vs vis y :=
  piece_right Q K V sc vs vis (lt768 (by omega)) (lt768 (by have := r.isLt; omega)) hk hbr hc hr hn hcn hvis P x y hx1 hx2 r hro
    q0 _ _ w0 w1 _ _ _ hP (q_read _ _ _ _) (k_read _ _ _) hs (b_read vis _ LB hLB hcn hcm _ _) (v_read _ LV hLV _ _)

/-! ## The pieces over all the keys -/

open Classical in
/-- The first half of a tile over all the keys. -/
theorem whole_left {LB : List (View.Piece (Elt Ideal) S768x768 .f32)} {vt : FVec Ideal S128x768 .bf16}
    (hvis : ∀ k i : Fin 768, vis k i → k.val ≤ i.val)
    (hLB : ∀ k i : Fin 768, k.val / 128 ≤ i.val / 128 → View.canon LB (ix2 k i) = (if vis k i then 0 else ⊥ : EReal))
    (hvt : ∀ (k : Fin 768) (d : Fin 128), vt (ix2 d k) = (V (ix4 0 0 k d) : EReal))
    (o : Nat) (r : Fin 6) {q1 : FVec Ideal S1x128x128 .fp8e4m3} {w0 w1 : Ideal .f32} {x : S1x128x128.Idx} {y : S1x768x768.Idx}
    {inq : ∀ a : Fin 3, (![0, 640, o] : Fin 3 → Nat) a + (![1, 128, 128] : Fin 3 → Nat) a ≤ S1x768x768.size a}
    {inb : ∀ a : Fin 2, (![0, 640] : Fin 2 → Nat) a + (![768, 128] : Fin 2 → Nat) a ≤ S768x768.size a}
    {P : FVec Ideal S1x128x128 .bf16}
    (hs : w0 = sc r) (hx1 : (y 1).val = 640 + (x 1).val) (hx2 : (y 2).val = o + (x 2).val)
    (hP : P = shapeCast S1x128x128 (extractStridedSlice S128x128 ![0, 0]
      (tile broadcasts_S1x256_S768x256 reduces_S768x256_S256
        (logits (n := 768) shapeCasts_S1x1x768x128_S768x128 broadcasts_S1x256_S768x256 concatenates_S768x128_S768x128_S768x256_d1
          (View.ld (Val := Elt Ideal) (e' := .fp8e4m3) Q (Rect.unit ![0, 640, o] ![1, 128, 128] inq)) q1 K
          (Scalar.mulf w0 (Named.named κ "log2e_inv_sqrt_d" 0x3E0293EE#32))
          (Scalar.mulf w1 (Named.named κ "log2e_inv_sqrt_d" 0x3E0293EE#32))
          ((View.whole cc0_scratch0).readCov LB (Rect.unit (s := S768x768) ![0, 640] ![768, 128] inb).toLoadRect)) vt vs)
      slices_S256x128_o0_0_S128x128) shapeCasts_S128x128_S1x128x128)
    (hro : o = 128 * r.val := by decide) : P x = blockOut Q K V sc vs vis y :=
  piece_left Q K V sc vs vis (lt768 (by omega)) (lt768 (by have := r.isLt; omega)) _ _ _ _ (le_refl _) rfl hvis P x y hx1 hx2
    r hro _ q1 K w0 w1 _ vt _ hP (q_read _ _ _ _) (fun _ _ => rfl) hs (b_read vis _ LB hLB rfl rfl _ _) hvt

open Classical in
/-- The second half of a tile over all the keys. -/
theorem whole_right {LB : List (View.Piece (Elt Ideal) S768x768 .f32)} {vt : FVec Ideal S128x768 .bf16}
    (hvis : ∀ k i : Fin 768, vis k i → k.val ≤ i.val)
    (hLB : ∀ k i : Fin 768, k.val / 128 ≤ i.val / 128 → View.canon LB (ix2 k i) = (if vis k i then 0 else ⊥ : EReal))
    (hvt : ∀ (k : Fin 768) (d : Fin 128), vt (ix2 d k) = (V (ix4 0 0 k d) : EReal))
    (o : Nat) (r : Fin 6) {q0 : FVec Ideal S1x128x128 .fp8e4m3} {w0 w1 : Ideal .f32} {x : S1x128x128.Idx} {y : S1x768x768.Idx}
    {inq : ∀ a : Fin 3, (![0, 640, o] : Fin 3 → Nat) a + (![1, 128, 128] : Fin 3 → Nat) a ≤ S1x768x768.size a}
    {inb : ∀ a : Fin 2, (![0, 640] : Fin 2 → Nat) a + (![768, 128] : Fin 2 → Nat) a ≤ S768x768.size a}
    {P : FVec Ideal S1x128x128 .bf16}
    (hs : w1 = sc r) (hx1 : (y 1).val = 640 + (x 1).val) (hx2 : (y 2).val = o + (x 2).val)
    (hP : P = shapeCast S1x128x128 (extractStridedSlice S128x128 ![128, 0]
      (tile broadcasts_S1x256_S768x256 reduces_S768x256_S256
        (logits (n := 768) shapeCasts_S1x1x768x128_S768x128 broadcasts_S1x256_S768x256 concatenates_S768x128_S768x128_S768x256_d1
          q0 (View.ld (Val := Elt Ideal) (e' := .fp8e4m3) Q (Rect.unit ![0, 640, o] ![1, 128, 128] inq)) K
          (Scalar.mulf w0 (Named.named κ "log2e_inv_sqrt_d" 0x3E0293EE#32))
          (Scalar.mulf w1 (Named.named κ "log2e_inv_sqrt_d" 0x3E0293EE#32))
          ((View.whole cc0_scratch0).readCov LB (Rect.unit (s := S768x768) ![0, 640] ![768, 128] inb).toLoadRect)) vt vs)
      slices_S256x128_o128_0_S128x128) shapeCasts_S128x128_S1x128x128)
    (hro : o = 128 * r.val := by decide) : P x = blockOut Q K V sc vs vis y :=
  piece_right Q K V sc vs vis (lt768 (by omega)) (lt768 (by have := r.isLt; omega)) _ _ _ _ (le_refl _) rfl hvis P x y hx1 hx2
    r hro q0 _ K w0 w1 _ vt _ hP (q_read _ _ _ _) (fun _ _ => rfl) hs (b_read vis _ LB hLB rfl rfl _ _) hvt

end

end Cert.Block
-- ==== Proof.Mask.lean ====
/- The mask the kernel builds: the vertical column, the banded table of slash distances, and the bias tiles.

   The table's row `a` at lane `128 + d + a` says whether the distance `d` is listed: each row is the row above moved
   one lane on. A bias tile reads the table at the distance of its query and key. -/
module

public import proofs.«01_k».proof.Proof.Spec
public import proofs.«01_k».proof.Proof.Gen.KernelIdeal.Skeleton
public import Idealize.ShloMosaic.Lib.Affine
public import Idealize.ShloMosaic.Lib.Pipeline.Value
public import Idealize.ShloMosaic.Lib.Pipeline.ValueKit

@[expose] public section

set_option maxRecDepth 16384

noncomputable section

namespace Cert.Mask

open Cert.KernelIdeal Cert.KernelIdeal.Gen Idealize.ShloMosaic.ValueIdx Idealize.ShloMosaic.TcCoe
open Idealize.ShloMosaic hiding ix1 ix2 ix3 ix4 ix5

/-- A bit widened and read as a number is positive when the bit is set. -/
theorem bit_pos (b : BitVec 1) : (0 : EReal) < (((b.setWidth 32).toInt : ℝ) : EReal) ↔ b = 1#1 := by
  rcases BitVec.eq_zero_or_eq_one b with rfl | rfl
  · simp
  · simp

/-- Whether an entry of a list, replaced by `-1` from the count on, is the position `j`. -/
theorem entry_iff (n : Nat) (cnt v : BitVec 32) (j : Nat) (hj : j < 768) :
    IntOp.cmpi .eq (Scalar.select (IntOp.cmpi .slt (BitVec.ofNat 32 n) cnt) v 4294967295#32) (BitVec.ofNat 32 j) = 1#1
      ↔ v = BitVec.ofNat 32 j ∧ (BitVec.ofNat 32 n).toInt < cnt.toInt := by
  rw [IntOp.cmpi_eq]
  by_cases h : IntOp.cmpi .slt (BitVec.ofNat 32 n) cnt = 1#1
  · rw [h, select_one]
    exact ⟨fun e => ⟨e, IntOp.cmpi_slt.1 h⟩, fun e => e.1⟩
  · rw [eq_zero_of_ne_one h, select_zero]
    refine ⟨fun e => ?_, fun e => absurd (IntOp.cmpi_slt.2 e.2) h⟩
    have := congrArg BitVec.toNat e
    simp only [BitVec.toNat_ofNat] at this
    omega

/-- A maximum along an axis is positive when one of the entries is. -/
theorem max_pos {s t : Shape} {a : Fin s.rank} (src : FVec Ideal s .f32) (h : s.Reduces [a] t) (j : t.Idx) :
    (0 : EReal) < multiReduction .maximumf [a] t src 0xFF800000#32 h (.inl rfl) rfl j
      ↔ ∃ k : Fin (s.size a), (0 : EReal) < src (h.lift j k) := by
  have hbot : Ideal.ofBits .f32 (FKind.maximumf.neutral .f32 (.inl rfl)) = ⊥ := Spec.ofBits_negInf
  have e : multiReduction .maximumf [a] t src 0xFF800000#32 h (.inl rfl) rfl j
      = Finset.univ.sup (fun k : Fin (s.size a) => src (h.lift j k)) := by
    refine (Ideal.multiReduction_maximumf_single src _ h (.inl rfl) rfl j).trans ?_
    rw [Ideal.ofBits_def, hbot]
    exact Spec.fold_max _ _
  rw [e, Finset.lt_sup_iff]
  simp

/-- The vertical column is positive at the positions that the counted part of the list names. -/
theorem column_pos (cnt : BitVec 32) (v : Vec Ideal S1x1x150 .i32) (j : Fin 768) :
    (0 : EReal) < k0_pay4 (F := Ideal) cnt v (ix2 j (0 : Fin 1))
      ↔ ∃ n : Fin 150, v (ix3 (0 : Fin 1) (0 : Fin 1) n) = BitVec.ofNat 32 j.val
          ∧ (BitVec.ofNat 32 n.val).toInt < cnt.toInt := by
  have hsc : ∀ n : Fin 150, shapeCast S1x150 v shapeCasts_S1x1x150_S1x150 (ix2 (0 : Fin 1) n)
      = v (ix3 (0 : Fin 1) (0 : Fin 1) n) := fun n => by
    refine shapeCast_apply v _ _ _ ?_
    rw [Shape.rowMajor_val_three, Shape.rowMajor_val_two]
    rfl
  dsimp only [k0_pay4]
  rw [shapeCast_apply _ shapeCasts_S768_S768x1 (ix2 j (0 : Fin 1)) (ix1 j)
    (by rw [Shape.rowMajor_val_one, Shape.rowMajor_val_two]; show j.val = j.val * 1 + 0; omega)]
  refine (max_pos _ reduces_S768x150_S768 (ix1 j)).trans ?_
  refine exists_congr fun n : Fin 150 => ?_
  have hl : reduces_S768x150_S768.lift (ix1 j) n = ix2 j n := funext fun a => Fin.ext (match a with
    | ⟨0, _⟩ => rfl | ⟨1, _⟩ => rfl)
  rw [hl]
  refine (bit_pos _).trans ?_
  rw [← entry_iff n.val cnt _ j.val j.isLt, ← hsc n]
  have hb : ∀ (u : IVec S1x150 32), broadcastTo S768x150 u broadcasts_S1x150_S768x150 (ix2 j n) = u (ix2 (0 : Fin 1) n) :=
    fun u => broadcastTo_apply u _ (ix2 j n) (ix2 (0 : Fin 1) n) fun a => match a with
      | ⟨0, _⟩ => rfl
      | ⟨1, _⟩ => rfl
  show IntOp.cmpi .eq (broadcastTo S768x150 _ broadcasts_S1x150_S768x150 (ix2 j n)) _ = 1#1 ↔ _
  rw [hb]
  have i1 : iota .tc S1x150 32 [1] iota_S1x150_d1_w32 (ix2 (0 : Fin 1) n) = BitVec.ofNat 32 n.val := iota_single_apply ..
  have i2 : iota .tc S768x150 32 [0] iota_S768x150_d0_w32 (ix2 j n) = BitVec.ofNat 32 j.val := iota_single_apply ..
  rw [← i1, ← i2]
  rfl

/-- The slash row, at a distance. -/
theorem row_pos (cnt : BitVec 32) (v : Vec Ideal S1x260x1 .i32) (d : Fin 768) (a : Fin 128) (l : Fin 1024)
    (hl : l.val = 128 + d.val + a.val) :
    (0 : EReal) < k0_pay5 (F := Ideal) cnt v (ix2 a l)
      ↔ ∃ n : Fin 260, v (ix3 (0 : Fin 1) n (0 : Fin 1)) = BitVec.ofNat 32 d.val
          ∧ (BitVec.ofNat 32 n.val).toInt < cnt.toInt := by
  have ha := a.isLt
  have hd := d.isLt
  have hsc : ∀ n : Fin 260, shapeCast S260x1 v shapeCasts_S1x260x1_S260x1 (ix2 n (0 : Fin 1))
      = v (ix3 (0 : Fin 1) n (0 : Fin 1)) := fun n => by
    refine shapeCast_apply v _ _ _ ?_
    rw [Shape.rowMajor_val_three, Shape.rowMajor_val_two]
    show (0 * 260 + n.val) * 1 + 0 = n.val * 1 + 0
    omega
  have hrot : ∀ u : FVec Ideal S128x1024 .f32, dynamicRotate 1 0#32 (some (1, 0)) u rotates_S128x1024_d1s1a0 (ix2 a l)
      = u (ix2 a (⟨128 + d.val, by omega⟩ : Fin 1024)) := fun u => by
    unfold dynamicRotate
    refine congrArg u (funext fun b => ?_)
    match b with
    | ⟨0, _⟩ => rfl
    | ⟨1, _⟩ =>
      refine (if_pos rfl).trans (Fin.ext ?_)
      show (l.val + 1024 - ((0#32 : BitVec 32).toNat + 1 * a.val) % 1024) % 1024 = 128 + d.val
      simp only [BitVec.toNat_ofNat]
      omega
  have hcat : ∀ (u w : FVec Ideal S1x128 .f32) (r : FVec Ideal S1x768 .f32),
      concatenate S1x1024 1 [⟨S1x128, u⟩, ⟨S1x768, r⟩, ⟨S1x128, w⟩] concatenates_S1x128_S1x768_S1x128_S1x1024_d1
        (ix2 (0 : Fin 1) (⟨128 + d.val, by omega⟩ : Fin 1024)) = r (ix2 (0 : Fin 1) d) := fun u w r =>
    concatenate_apply_piece (t := S1x1024) 1 [⟨S1x128, u⟩, ⟨S1x768, r⟩, ⟨S1x128, w⟩]
      concatenates_S1x128_S1x768_S1x128_S1x1024_d1 _ 1 (by show 1 < 3; omega) S1x768 r rfl rfl 128 rfl
      (ix2 (0 : Fin 1) d) (fun b hb => match b, hb with | ⟨0, _⟩, _ => rfl | ⟨1, _⟩, hb => absurd rfl hb) rfl
  dsimp only [k0_pay5]
  rw [hrot, broadcastTo_apply _ broadcasts_S1x1024_S128x1024 (ix2 a (⟨128 + d.val, by omega⟩ : Fin 1024))
    (ix2 (0 : Fin 1) (⟨128 + d.val, by omega⟩ : Fin 1024)) (fun b => match b with | ⟨0, _⟩ => rfl | ⟨1, _⟩ => rfl),
    shapeCast_apply _ shapeCasts_S1x1024_S1x1024 _ (ix2 (0 : Fin 1) (⟨128 + d.val, by omega⟩ : Fin 1024)) rfl]
  rw [hcat]
  rw [shapeCast_apply _ shapeCasts_S768_S1x768 (ix2 (0 : Fin 1) d) (ix1 d)
    (by rw [Shape.rowMajor_val_one, Shape.rowMajor_val_two]; show d.val = 0 * 768 + d.val; omega)]
  refine (max_pos _ reduces_S260x768_S768 (ix1 d)).trans ?_
  refine exists_congr fun n : Fin 260 => ?_
  have hli : reduces_S260x768_S768.lift (ix1 d) n = ix2 n d := funext fun a => Fin.ext (match a with
    | ⟨0, _⟩ => rfl | ⟨1, _⟩ => rfl)
  rw [hli]
  refine (bit_pos _).trans ?_
  rw [← entry_iff n.val cnt _ d.val d.isLt, ← hsc n]
  have hb : ∀ (u : IVec S260x1 32), broadcastTo S260x768 u broadcasts_S260x1_S260x768 (ix2 n d) = u (ix2 n (0 : Fin 1)) :=
    fun u => broadcastTo_apply u _ (ix2 n d) (ix2 n (0 : Fin 1)) fun a => match a with
      | ⟨0, _⟩ => rfl
      | ⟨1, _⟩ => rfl
  show IntOp.cmpi .eq (broadcastTo S260x768 _ broadcasts_S260x1_S260x768 (ix2 n d)) _ = 1#1 ↔ _
  rw [hb]
  have i1 : iota .tc S260x1 32 [0] iota_S260x1_d0_w32 (ix2 n (0 : Fin 1)) = BitVec.ofNat 32 n.val := iota_single_apply ..
  have i2 : iota .tc S260x768 32 [1] iota_S260x768_d1_w32 (ix2 n d) = BitVec.ofNat 32 d.val := iota_single_apply ..
  rw [← i1, ← i2]
  rfl

/-! ## The bias tiles -/

variable (T : FVec Ideal S128x1024 .f32) (W : FVec Ideal S768x1 .f32)

/-- Whether the table or the column hits at a key and a query. -/
def hits (k i : Fin 768) : Prop :=
  (0 : EReal) < max
    (T (ix2 ⟨k.val % 128, by omega⟩ ⟨(128 + 128 * (i.val / 128 - k.val / 128) + i.val % 128) % 1024, by omega⟩))
    (W (ix2 k (0 : Fin 1)))

/-- Whether a key is visible to a query: the table or the column hits, and the key does not come after the query. -/
def seen (k i : Fin 768) : Prop := hits T W k i ∧ k.val ≤ i.val

open Classical in
/-- The bias at a key `y 0` and a query `y 1`. -/
def bias (y : S768x768.Idx) : EReal := if seen T W (y 0) (y 1) then 0 else ⊥

/-- The comparison with the written zero is the comparison with zero. -/
theorem ogt_zero (r : EReal) :
    FloatOps.cmpf (F := Ideal) (φ := .f32) .ogt r (Ideal.ofBits .f32 0x00000000#32) = 1#1 ↔ 0 < r := by
  have z : Ideal.ofBits .f32 0x00000000#32 = (0 : EReal) := Ideal.ofBits_zero_f32
  rw [z]
  show BitVec.ofBool (decide ((0 : EReal) < r)) = 1#1 ↔ _
  by_cases h : (0 : EReal) < r <;> simp [h]

/-- The largest of the table's and the column's entries, compared with zero, at a place of a tile. -/
theorem hit_iff {o p : Nat} (hT : S128x1024.Slices ![0, o] S128x128) (hW : S768x1.Slices ![p, 0] S128x1)
    (x : S128x128.Idx) (a : Fin 128) (l : Fin 1024) (k : Fin 768) (ha : a.val = (x 0).val) (hl : l.val = o + (x 1).val)
    (hk : k.val = p + (x 0).val) :
    cmpf .ogt (maximumf (extractStridedSlice S128x128 ![0, o] T hT)
        (broadcastTo S128x128 (extractStridedSlice S128x1 ![p, 0] W hW) broadcasts_S128x1_S128x128))
      (broadcast S128x128 (Scalar.ofBits (F := Ideal) .f32 0x00000000#32)) x = 1#1
      ↔ (0 : EReal) < max (T (ix2 a l)) (W (ix2 k (0 : Fin 1))) := by
  have e1 : extractStridedSlice S128x128 ![0, o] T hT x = T (ix2 a l) :=
    extractStridedSlice_apply _ T hT _ _ fun b => match b with
      | ⟨0, _⟩ => by show a.val = 0 + (x 0).val; omega
      | ⟨1, _⟩ => hl
  have e2 : broadcastTo S128x128 (extractStridedSlice S128x1 ![p, 0] W hW) broadcasts_S128x1_S128x128 x
      = W (ix2 k (0 : Fin 1)) :=
    (broadcastTo_apply _ broadcasts_S128x1_S128x128 x (ix2 a (0 : Fin 1)) fun b => match b with
      | ⟨0, _⟩ => ha
      | ⟨1, _⟩ => rfl).trans (extractStridedSlice_apply _ W hW _ _ fun b => match b with
      | ⟨0, _⟩ => by show k.val = p + a.val; omega
      | ⟨1, _⟩ => rfl)
  rw [← e1, ← e2]
  exact ogt_zero _

open Classical in
/-- A select of zero and `−∞` by a bit. -/
theorem select_bias (b : IVec S128x128 1) (x : S128x128.Idx) (C : Prop) (h : b x = 1#1 ↔ C) :
    shapeCast S128x128 (select b (broadcast S128x128 (Scalar.ofBits (F := Ideal) .f32 0x00000000#32))
      (broadcast S128x128 (Scalar.ofBits (F := Ideal) .f32 0xFF800000#32))) shapeCasts_S128x128_S128x128 x
      = (if C then 0 else ⊥ : EReal) := by
  rw [shapeCast_apply _ shapeCasts_S128x128_S128x128 x x rfl]
  show Scalar.select (b x) (Ideal.ofBits .f32 0x00000000#32) (Ideal.ofBits .f32 0xFF800000#32) = _
  by_cases hc : C
  · rw [if_pos hc, h.2 hc, select_one]; exact Ideal.ofBits_zero_f32
  · rw [if_neg hc, eq_zero_of_ne_one (fun e => hc (h.1 e)), select_zero]; exact Spec.ofBits_negInf

/-- The kernel's causal bit of a diagonal tile. -/
theorem causal_iff (x : S128x128.Idx) : k0_pay6 x = 1#1 ↔ (x 0).val ≤ (x 1).val := by
  have h0 : (x 0).val < 128 := (x 0).isLt
  have h1 : (x 1).val < 128 := (x 1).isLt
  show IntOp.cmpi .sle (iota .tc S128x128 32 [0] iota_S128x128_d0_w32 x) (iota .tc S128x128 32 [1] iota_S128x128_d1_w32 x) = 1#1 ↔ _
  rw [iota_single_apply, iota_single_apply]
  rw [IntOp.cmpi_sle, BitVec.toInt_eq_toNat_of_lt (by simp only [BitVec.toNat_ofNat]; omega),
    BitVec.toInt_eq_toNat_of_lt (by simp only [BitVec.toNat_ofNat]; omega)]
  simp only [BitVec.toNat_ofNat]
  omega

/-- The place of a tile in the whole, and the hit there. -/
theorem hit_at {o p q : Nat} (hp : p % 128 = 0) (hq : q % 128 = 0) (ho : o = 128 + (q - p))
    (hT : S128x1024.Slices ![0, o] S128x128) (hW : S768x1.Slices ![p, 0] S128x1)
    (inb : ∀ a : Fin 2, (![p, q] : Fin 2 → Nat) a + S128x128.size a ≤ S768x768.size a)
    (x : S128x128.Idx) :
    cmpf .ogt (maximumf (extractStridedSlice S128x128 ![0, o] T hT)
        (broadcastTo S128x128 (extractStridedSlice S128x1 ![p, 0] W hW) broadcasts_S128x1_S128x128))
      (broadcast S128x128 (Scalar.ofBits (F := Ideal) .f32 0x00000000#32)) x = 1#1
      ↔ hits T W ((Rect.unit (s := S768x768) ![p, q] S128x128.size inb).emb x 0)
          ((Rect.unit (s := S768x768) ![p, q] S128x128.size inb).emb x 1) := by
  have h0 : (x 0).val < 128 := (x 0).isLt
  have h1 : (x 1).val < 128 := (x 1).isLt
  have y0 : ((Rect.unit (s := S768x768) ![p, q] S128x128.size inb).emb x 0).val = p + (x 0).val :=
    Rect.idx_unit_val (s := S768x768) ![p, q] S128x128.size inb x 0
  have y1 : ((Rect.unit (s := S768x768) ![p, q] S128x128.size inb).emb x 1).val = q + (x 1).val :=
    Rect.idx_unit_val (s := S768x768) ![p, q] S128x128.size inb x 1
  have i1 : q + 128 ≤ 768 := inb 1
  exact hit_iff T W hT hW x _ _ _ (by show (_ : Nat) % 128 = _; rw [y0]; omega)
    (by show (_ : Nat) % 1024 = _; rw [y0, y1]; omega) y0

/-- A tile off the diagonal holds the bias. -/
theorem tile_off {o p q : Nat} (hp : p % 128 = 0) (hq : q % 128 = 0) (hpq : p < q) (ho : o = 128 + (q - p))
    (hT : S128x1024.Slices ![0, o] S128x128) (hW : S768x1.Slices ![p, 0] S128x1)
    (inb : ∀ a : Fin 2, (![p, q] : Fin 2 → Nat) a + S128x128.size a ≤ S768x768.size a)
    (P : FVec Ideal S128x128 .f32)
    (hP : P = shapeCast S128x128 (select (cmpf .ogt (maximumf (extractStridedSlice S128x128 ![0, o] T hT)
        (broadcastTo S128x128 (extractStridedSlice S128x1 ![p, 0] W hW) broadcasts_S128x1_S128x128))
        (broadcast S128x128 (Scalar.ofBits (F := Ideal) .f32 0x00000000#32)))
      (broadcast S128x128 (Scalar.ofBits (F := Ideal) .f32 0x00000000#32))
      (broadcast S128x128 (Scalar.ofBits (F := Ideal) .f32 0xFF800000#32))) shapeCasts_S128x128_S128x128)
    (x : S128x128.Idx) : P x = bias T W ((Rect.unit (s := S768x768) ![p, q] S128x128.size inb).emb x) := by
  have h0 : (x 0).val < 128 := (x 0).isLt
  have h1 : (x 1).val < 128 := (x 1).isLt
  have y0 : ((Rect.unit (s := S768x768) ![p, q] S128x128.size inb).emb x 0).val = p + (x 0).val :=
    Rect.idx_unit_val (s := S768x768) ![p, q] S128x128.size inb x 0
  have y1 : ((Rect.unit (s := S768x768) ![p, q] S128x128.size inb).emb x 1).val = q + (x 1).val :=
    Rect.idx_unit_val (s := S768x768) ![p, q] S128x128.size inb x 1
  rw [hP]
  refine select_bias _ x (seen T W _ _) ((hit_at T W hp hq ho hT hW inb x).trans (and_iff_left ?_).symm)
  rw [y0, y1]
  omega

/-- A tile on the diagonal holds the bias. -/
theorem tile_diag {p : Nat} (hp : p % 128 = 0)
    (hT : S128x1024.Slices ![0, 128] S128x128) (hW : S768x1.Slices ![p, 0] S128x1)
    (inb : ∀ a : Fin 2, (![p, p] : Fin 2 → Nat) a + S128x128.size a ≤ S768x768.size a)
    (P : FVec Ideal S128x128 .f32)
    (hP : P = shapeCast S128x128 (select (andi (cmpf .ogt (maximumf (extractStridedSlice S128x128 ![0, 128] T hT)
        (broadcastTo S128x128 (extractStridedSlice S128x1 ![p, 0] W hW) broadcasts_S128x1_S128x128))
        (broadcast S128x128 (Scalar.ofBits (F := Ideal) .f32 0x00000000#32))) k0_pay6)
      (broadcast S128x128 (Scalar.ofBits (F := Ideal) .f32 0x00000000#32))
      (broadcast S128x128 (Scalar.ofBits (F := Ideal) .f32 0xFF800000#32))) shapeCasts_S128x128_S128x128)
    (x : S128x128.Idx) : P x = bias T W ((Rect.unit (s := S768x768) ![p, p] S128x128.size inb).emb x) := by
  have y0 : ((Rect.unit (s := S768x768) ![p, p] S128x128.size inb).emb x 0).val = p + (x 0).val :=
    Rect.idx_unit_val (s := S768x768) ![p, p] S128x128.size inb x 0
  have y1 : ((Rect.unit (s := S768x768) ![p, p] S128x128.size inb).emb x 1).val = p + (x 1).val :=
    Rect.idx_unit_val (s := S768x768) ![p, p] S128x128.size inb x 1
  rw [hP]
  refine select_bias _ x (seen T W _ _) ?_
  refine IntOp.andi_eq_one.trans (and_congr (hit_at T W hp hp (by omega) hT hW inb x) ?_)
  rw [y0, y1]
  exact (causal_iff x).trans (by omega)

/-- What a hit is, when the table and the column were built from the lists. -/
theorem hits_iff (cv cs : BitVec 32) (vi : Vec Ideal S1x1x150 .i32) (so : Vec Ideal S1x260x1 .i32) (k i : Fin 768)
    (hki : k.val ≤ i.val) :
    hits (k0_pay5 (F := Ideal) cs so) (k0_pay4 (F := Ideal) cv vi) k i
      ↔ (∃ n : Fin 260, so (ix3 (0 : Fin 1) n (0 : Fin 1)) = BitVec.ofNat 32 (i.val - k.val)
            ∧ (BitVec.ofNat 32 n.val).toInt < cs.toInt)
        ∨ (∃ n : Fin 150, vi (ix3 (0 : Fin 1) (0 : Fin 1) n) = BitVec.ofNat 32 k.val
            ∧ (BitVec.ofNat 32 n.val).toInt < cv.toInt) := by
  unfold hits
  have hi := i.isLt
  rw [lt_max_iff, column_pos, row_pos cs so (⟨i.val - k.val, by omega⟩ : Fin 768) _ _ (by
    show (128 + 128 * (i.val / 128 - k.val / 128) + i.val % 128) % 1024 = 128 + (i.val - k.val) + k.val % 128
    omega)]

end Cert.Mask
-- ==== Proof.Step.lean ====
/- What one step of the kernel writes: the attention of its query rows, over the keys its lists name. -/
module

public import proofs.«01_k».proof.Proof.Block
public import proofs.«01_k».proof.Proof.Mask
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Step

open Cert.KernelIdeal Cert.KernelIdeal.Gen Idealize.ShloMosaic Idealize.ShloMosaic.TcCoe Idealize.SL.Sem
variable (m : (ℓ : Loc nD τ sig) → Buf (Elt Ideal) ℓ)

/-- The step's row of a table, as the kernel computes it. -/
theorem row_val : ∀ t : Fin grid0.N, ((Scalar.indexCast (BitVec.ofNat 32 (grid0.coords t 0).val) : Index)).toNat = t.val := by
  decide +kernel

/-- A scalar load from a table reads the step's row. -/
theorem scalar_read {e : EltTy} {n : Nat} (X : (⟨2, ![16, n]⟩ : Shape).Idx → Elt Ideal e) (t : Fin grid0.N) (off : Fin 2 → Nat) (col : Fin n)
    (h0 : off 0 = t.val) (h1 : off 1 = col.val)
    (inb : ∀ a : Fin 2, off a + (![1, 1] : Fin 2 → Nat) a ≤ (⟨2, ![16, n]⟩ : Shape).size a) (hf) :
    View.ld (Val := Elt Ideal) (e' := e) X (Rect.unit off ![1, 1] inb) (Shape.Idx.first (s := ⟨2, ![1, 1]⟩) hf)
      = X (ValueIdx.ix2 (Fin.castLE (by decide) t : Fin 16) col) := by
  refine View.ld_unit_apply_of _ _ _ inb _ _ fun a => ?_
  match a with
  | ⟨0, _⟩ => exact h0.symm
  | ⟨1, _⟩ => exact h1.symm

/-- The transposed values, at a place. -/
theorem values_read (V : FVec Ideal S1x1x768x128 .fp8e4m3) (k : Fin 768) (d : Fin 128) :
    k0_pay36 (F := Ideal) V (ValueIdx.ix2 d k) = (V (ValueIdx.ix4 0 0 k d) : EReal) := by
  dsimp only [k0_pay36]
  rw [shapeCast_apply _ shapeCasts_S128x768_S128x768 _ (ValueIdx.ix2 d k) rfl]
  show transpose S128x768 [1, 0] (extf .f32 (shapeCast S768x128 V shapeCasts_S1x1x768x128_S768x128) bitsLt_fp8e4m3_f32)
    transposes_S768x128_p1_0_S128x768 (ValueIdx.ix2 d k) = _
  rw [transpose_apply _ _ transposes_S768x128_p1_0_S128x768 (ValueIdx.ix2 d k) (ValueIdx.ix2 k d) (fun b => match b with
    | ⟨0, _⟩ => rfl | ⟨1, _⟩ => rfl)]
  show shapeCast S768x128 V shapeCasts_S1x1x768x128_S768x128 (ValueIdx.ix2 k d) = _
  refine shapeCast_apply V _ _ _ ?_
  rw [Shape.rowMajor_val_four, Shape.rowMajor_val_two]
  show ((0 * 1 + 0) * 768 + k.val) * 128 + d.val = k.val * 128 + d.val
  omega

/-- The keys a query sees at a step, from the step's lists and counts. -/
def vis (cv cs : BitVec 32) (vi : Vec Ideal S1x1x150 .i32) (so : Vec Ideal S1x260x1 .i32) (k i : Fin 768) : Prop :=
  Mask.seen (k0_pay5 (F := Ideal) cs so) (k0_pay4 (F := Ideal) cv vi) k i

set_option maxHeartbeats 2000000 in
open Classical in
/-- What a step writes: its attention, over the keys its lists name. -/
theorem step_out (c : Dev nD) (t : Fin cfg0.N) (y : S1x768x768.Idx) :
    outsAt0 m c t y = Block.blockOut (iblk m c 4 t) (iblk m c 5 t) (iblk m c 6 t)
      (fun r : Fin 6 => (iblk m c 0 t : S16x7.Idx → EReal) (ValueIdx.ix2 (Fin.castLE (by decide) t : Fin 16) (Fin.castLE (by decide) r)))
      ((iblk m c 0 t : S16x7.Idx → EReal) (ValueIdx.ix2 (Fin.castLE (by decide) t : Fin 16) (6 : Fin 7)))
      (vis ((iblk m c 1 t : S16x2.Idx → BitVec 32) (ValueIdx.ix2 (Fin.castLE (by decide) t : Fin 16) (0 : Fin 2)))
        ((iblk m c 1 t : S16x2.Idx → BitVec 32) (ValueIdx.ix2 (Fin.castLE (by decide) t : Fin 16) (1 : Fin 2)))
        (iblk m c 2 t) (iblk m c 3 t)) y := by
  unfold outsAt0
  frame_out
  rw [scalar_read (n := 7) (iblk m c 0 t) t (k0_off5 (grid0.coords t)) 6 (row_val t) rfl,
    scalar_read (n := 7) (iblk m c 0 t) t (k0_off3 (grid0.coords t)) 0 (row_val t) rfl,
    scalar_read (n := 7) (iblk m c 0 t) t (k0_off4 (grid0.coords t)) 1 (row_val t) rfl,
    scalar_read (n := 7) (iblk m c 0 t) t (k0_off6 (grid0.coords t)) 2 (row_val t) rfl,
    scalar_read (n := 7) (iblk m c 0 t) t (k0_off7 (grid0.coords t)) 3 (row_val t) rfl,
    scalar_read (n := 7) (iblk m c 0 t) t (k0_off8 (grid0.coords t)) 4 (row_val t) rfl,
    scalar_read (n := 7) (iblk m c 0 t) t (k0_off9 (grid0.coords t)) 5 (row_val t) rfl,
    scalar_read (n := 2) (iblk m c 1 t) t (k0_off1 (grid0.coords t)) 0 (row_val t) rfl,
    scalar_read (n := 2) (iblk m c 1 t) t (k0_off2 (grid0.coords t)) 1 (row_val t) rfl]
  generalize ((iblk m c 1 t : S16x2.Idx → BitVec 32) (ValueIdx.ix2 (Fin.castLE (by decide) t : Fin 16) (0 : Fin 2))) = cv
  generalize ((iblk m c 1 t : S16x2.Idx → BitVec 32) (ValueIdx.ix2 (Fin.castLE (by decide) t : Fin 16) (1 : Fin 2))) = cs
  generalize hLB : (List.cons (α := View.Piece (Elt Ideal) S768x768 .f32) ⟨Rect.unit ![640, 640] ![128, 128] _, _⟩ _) = LB
  generalize hLV : (List.cons (α := View.Piece (Elt Ideal) S128x768 .bf16) ⟨Rect.unit ![0, 0] ![128, 768] _, _⟩ _) = LV
  have hB : ∀ k i : Fin 768, k.val / 128 ≤ i.val / 128 →
      View.canon LB (ValueIdx.ix2 k i) = (if vis cv cs (iblk m c 2 t) (iblk m c 3 t) k i then 0 else ⊥ : EReal) := by
    subst hLB
    intro k i hki
    have hk := k.isLt
    have hi := i.isLt
    refine View.canon_apply_of_pieces (Val := Elt Ideal) (S := S768x768) (e := .f32)
      (Mask.bias (k0_pay5 (F := Ideal) cs (iblk m c 3 t)) (k0_pay4 (F := Ideal) cv (iblk m c 2 t))) _ ?_ (ValueIdx.ix2 k i) ?_
    · simp only [List.forall_mem_cons]
      exact ⟨Mask.tile_diag _ _ rfl slices_S128x1024_o0_128_S128x128 slices_S768x1_o640_0_S128x1 _ _ rfl,
        Mask.tile_off _ _ rfl rfl (by decide) rfl slices_S128x1024_o0_256_S128x128 slices_S768x1_o512_0_S128x1 _ _ rfl,
        Mask.tile_off _ _ rfl rfl (by decide) rfl slices_S128x1024_o0_384_S128x128 slices_S768x1_o384_0_S128x1 _ _ rfl,
        Mask.tile_off _ _ rfl rfl (by decide) rfl slices_S128x1024_o0_512_S128x128 slices_S768x1_o256_0_S128x1 _ _ rfl,
        Mask.tile_off _ _ rfl rfl (by decide) rfl slices_S128x1024_o0_640_S128x128 slices_S768x1_o128_0_S128x1 _ _ rfl,
        Mask.tile_off _ _ rfl rfl (by decide) rfl slices_S128x1024_o0_768_S128x128 slices_S768x1_o0_0_S128x1 _ _ rfl,
        Mask.tile_diag _ _ rfl slices_S128x1024_o0_128_S128x128 slices_S768x1_o512_0_S128x1 _ _ rfl,
        Mask.tile_off _ _ rfl rfl (by decide) rfl slices_S128x1024_o0_256_S128x128 slices_S768x1_o384_0_S128x1 _ _ rfl,
        Mask.tile_off _ _ rfl rfl (by decide) rfl slices_S128x1024_o0_384_S128x128 slices_S768x1_o256_0_S128x1 _ _ rfl,
        Mask.tile_off _ _ rfl rfl (by decide) rfl slices_S128x1024_o0_512_S128x128 slices_S768x1_o128_0_S128x1 _ _ rfl,
        Mask.tile_off _ _ rfl rfl (by decide) rfl slices_S128x1024_o0_640_S128x128 slices_S768x1_o0_0_S128x1 _ _ rfl,
        Mask.tile_diag _ _ rfl slices_S128x1024_o0_128_S128x128 slices_S768x1_o384_0_S128x1 _ _ rfl,
        Mask.tile_off _ _ rfl rfl (by decide) rfl slices_S128x1024_o0_256_S128x128 slices_S768x1_o256_0_S128x1 _ _ rfl,
        Mask.tile_off _ _ rfl rfl (by decide) rfl slices_S128x1024_o0_384_S128x128 slices_S768x1_o128_0_S128x1 _ _ rfl,
        Mask.tile_off _ _ rfl rfl (by decide) rfl slices_S128x1024_o0_512_S128x128 slices_S768x1_o0_0_S128x1 _ _ rfl,
        Mask.tile_diag _ _ rfl slices_S128x1024_o0_128_S128x128 slices_S768x1_o256_0_S128x1 _ _ rfl,
        Mask.tile_off _ _ rfl rfl (by decide) rfl slices_S128x1024_o0_256_S128x128 slices_S768x1_o128_0_S128x1 _ _ rfl,
        Mask.tile_off _ _ rfl rfl (by decide) rfl slices_S128x1024_o0_384_S128x128 slices_S768x1_o0_0_S128x1 _ _ rfl,
        Mask.tile_diag _ _ rfl slices_S128x1024_o0_128_S128x128 slices_S768x1_o128_0_S128x1 _ _ rfl,
        Mask.tile_off _ _ rfl rfl (by decide) rfl slices_S128x1024_o0_256_S128x128 slices_S768x1_o0_0_S128x1 _ _ rfl,
        Mask.tile_diag _ _ rfl slices_S128x1024_o0_128_S128x128 slices_S768x1_o0_0_S128x1 _ _ rfl,
        by simp⟩
    · simp only [List.mem_cons, exists_eq_or_imp, Rect.mem_set_unit]
      have hfin : ∀ p q : Nat, p ≤ k.val → k.val < p + 128 → q ≤ i.val → i.val < q + 128 → ∀ a : Fin 2,
          (![p, q] : Fin 2 → Nat) a ≤ ((ValueIdx.ix2 k i : S768x768.Idx) a).val
            ∧ ((ValueIdx.ix2 k i : S768x768.Idx) a).val < (![p, q] : Fin 2 → Nat) a + (![128, 128] : Fin 2 → Nat) a :=
        fun p q h1 h2 h3 h4 a => match a with
          | ⟨0, _⟩ => ⟨h1, h2⟩
          | ⟨1, _⟩ => ⟨h3, h4⟩
      have ek : k.val / 128 = 0 ∨ k.val / 128 = 1 ∨ k.val / 128 = 2 ∨ k.val / 128 = 3 ∨ k.val / 128 = 4 ∨ k.val / 128 = 5 := by omega
      have ei : i.val / 128 = 0 ∨ i.val / 128 = 1 ∨ i.val / 128 = 2 ∨ i.val / 128 = 3 ∨ i.val / 128 = 4 ∨ i.val / 128 = 5 := by omega
      rcases ek with ek | ek | ek | ek | ek | ek <;> rcases ei with ei | ei | ei | ei | ei | ei <;>
        first
        | (exfalso; omega)
        | (repeat (first
            | exact Or.inl (hfin _ _ (by omega) (by omega) (by omega) (by omega))
            | exact hfin _ _ (by omega) (by omega) (by omega) (by omega)
            | refine Or.inr ?_))
  have hvis : ∀ k i : Fin 768, vis cv cs (iblk m c 2 t) (iblk m c 3 t) k i → k.val ≤ i.val := fun k i h => h.2
  have hW : ∀ (k : Fin 768) (d : Fin 128),
      k0_pay36 (F := Ideal) (iblk m c 6 t) (ValueIdx.ix2 d k) = (iblk m c 6 t (ValueIdx.ix4 0 0 k d) : EReal) :=
    values_read _
  have hVt : ∀ (k : Fin 768) (d : Fin 128), View.canon LV (ValueIdx.ix2 d k) = (iblk m c 6 t (ValueIdx.ix4 0 0 k d) : EReal) := by
    subst hLV
    intro k d
    refine (View.canon_apply_of_pieces (Val := Elt Ideal) (S := S128x768) (e := .bf16) (k0_pay36 (F := Ideal) (iblk m c 6 t)) _ ?_
      (ValueIdx.ix2 d k) ?_).trans (hW k d)
    · simp only [List.forall_mem_cons]
      refine ⟨fun x => congrArg (k0_pay36 (F := Ideal) (iblk m c 6 t)) (funext fun a => Fin.ext ?_), by simp⟩
      match a with
      | ⟨0, _⟩ => exact ((Rect.idx_unit_val (s := S128x768) ![0, 0] ![128, 768] _ x 0).trans (Nat.zero_add _)).symm
      | ⟨1, _⟩ => exact ((Rect.idx_unit_val (s := S128x768) ![0, 0] ![128, 768] _ x 1).trans (Nat.zero_add _)).symm
    · exact ⟨_, List.mem_cons_self .., View.mem_set_unit_zero (funext fun a => match a with | ⟨0, _⟩ => rfl | ⟨1, _⟩ => rfl)
        inb_S128x768_S128x768_0_0 _⟩
  canon_tiles x h
  case piece35 =>
    exact Block.loaded_left hvis hB hVt 128 0 0 0 rfl (by omega) (by omega) shapeCasts_S1x1x128x128_S128x128 broadcasts_S1x256_S128x256 concatenates_S128x128_S128x128_S128x256_d1 reduces_S128x256_S256 rfl
  case piece34 =>
    exact Block.loaded_right hvis hB hVt 128 0 128 1 rfl (by omega) (by omega) shapeCasts_S1x1x128x128_S128x128 broadcasts_S1x256_S128x256 concatenates_S128x128_S128x128_S128x256_d1 reduces_S128x256_S256 rfl
  case piece33 =>
    exact Block.loaded_left hvis hB hVt 256 128 0 0 rfl (by omega) (by omega) shapeCasts_S1x1x256x128_S256x128 broadcasts_S1x256_S256x256 concatenates_S256x128_S256x128_S256x256_d1 reduces_S256x256_S256 rfl
  case piece32 =>
    exact Block.loaded_right hvis hB hVt 256 128 128 1 rfl (by omega) (by omega) shapeCasts_S1x1x256x128_S256x128 broadcasts_S1x256_S256x256 concatenates_S256x128_S256x128_S256x256_d1 reduces_S256x256_S256 rfl
  case piece31 =>
    exact Block.loaded_left hvis hB hVt 384 256 0 0 rfl (by omega) (by omega) shapeCasts_S1x1x384x128_S384x128 broadcasts_S1x256_S384x256 concatenates_S384x128_S384x128_S384x256_d1 reduces_S384x256_S256 rfl
  case piece30 =>
    exact Block.loaded_right hvis hB hVt 384 256 128 1 rfl (by omega) (by omega) shapeCasts_S1x1x384x128_S384x128 broadcasts_S1x256_S384x256 concatenates_S384x128_S384x128_S384x256_d1 reduces_S384x256_S256 rfl
  case piece29 =>
    exact Block.loaded_left hvis hB hVt 512 384 0 0 rfl (by omega) (by omega) shapeCasts_S1x1x512x128_S512x128 broadcasts_S1x256_S512x256 concatenates_S512x128_S512x128_S512x256_d1 reduces_S512x256_S256 rfl
  case piece28 =>
    exact Block.loaded_right hvis hB hVt 512 384 128 1 rfl (by omega) (by omega) shapeCasts_S1x1x512x128_S512x128 broadcasts_S1x256_S512x256 concatenates_S512x128_S512x128_S512x256_d1 reduces_S512x256_S256 rfl
  case piece27 =>
    exact Block.loaded_left hvis hB hVt 640 512 0 0 rfl (by omega) (by omega) shapeCasts_S1x1x640x128_S640x128 broadcasts_S1x256_S640x256 concatenates_S640x128_S640x128_S640x256_d1 reduces_S640x256_S256 rfl
  case piece26 =>
    exact Block.loaded_right hvis hB hVt 640 512 128 1 rfl (by omega) (by omega) shapeCasts_S1x1x640x128_S640x128 broadcasts_S1x256_S640x256 concatenates_S640x128_S640x128_S640x256_d1 reduces_S640x256_S256 rfl
  case piece25 =>
    exact Block.whole_left hvis hB hW 0 0 rfl (by omega) (by omega) rfl
  case piece24 =>
    exact Block.whole_right hvis hB hW 128 1 rfl (by omega) (by omega) rfl
  case piece23 =>
    exact Block.loaded_left hvis hB hVt 128 0 256 2 rfl (by omega) (by omega) shapeCasts_S1x1x128x128_S128x128 broadcasts_S1x256_S128x256 concatenates_S128x128_S128x128_S128x256_d1 reduces_S128x256_S256 rfl
  case piece22 =>
    exact Block.loaded_right hvis hB hVt 128 0 384 3 rfl (by omega) (by omega) shapeCasts_S1x1x128x128_S128x128 broadcasts_S1x256_S128x256 concatenates_S128x128_S128x128_S128x256_d1 reduces_S128x256_S256 rfl
  case piece21 =>
    exact Block.loaded_left hvis hB hVt 256 128 256 2 rfl (by omega) (by omega) shapeCasts_S1x1x256x128_S256x128 broadcasts_S1x256_S256x256 concatenates_S256x128_S256x128_S256x256_d1 reduces_S256x256_S256 rfl
  case piece20 =>
    exact Block.loaded_right hvis hB hVt 256 128 384 3 rfl (by omega) (by omega) shapeCasts_S1x1x256x128_S256x128 broadcasts_S1x256_S256x256 concatenates_S256x128_S256x128_S256x256_d1 reduces_S256x256_S256 rfl
  case piece19 =>
    exact Block.loaded_left hvis hB hVt 384 256 256 2 rfl (by omega) (by omega) shapeCasts_S1x1x384x128_S384x128 broadcasts_S1x256_S384x256 concatenates_S384x128_S384x128_S384x256_d1 reduces_S384x256_S256 rfl
  case piece18 =>
    exact Block.loaded_right hvis hB hVt 384 256 384 3 rfl (by omega) (by omega) shapeCasts_S1x1x384x128_S384x128 broadcasts_S1x256_S384x256 concatenates_S384x128_S384x128_S384x256_d1 reduces_S384x256_S256 rfl
  case piece17 =>
    exact Block.loaded_left hvis hB hVt 512 384 256 2 rfl (by omega) (by omega) shapeCasts_S1x1x512x128_S512x128 broadcasts_S1x256_S512x256 concatenates_S512x128_S512x128_S512x256_d1 reduces_S512x256_S256 rfl
  case piece16 =>
    exact Block.loaded_right hvis hB hVt 512 384 384 3 rfl (by omega) (by omega) shapeCasts_S1x1x512x128_S512x128 broadcasts_S1x256_S512x256 concatenates_S512x128_S512x128_S512x256_d1 reduces_S512x256_S256 rfl
  case piece15 =>
    exact Block.loaded_left hvis hB hVt 640 512 256 2 rfl (by omega) (by omega) shapeCasts_S1x1x640x128_S640x128 broadcasts_S1x256_S640x256 concatenates_S640x128_S640x128_S640x256_d1 reduces_S640x256_S256 rfl
  case piece14 =>
    exact Block.loaded_right hvis hB hVt 640 512 384 3 rfl (by omega) (by omega) shapeCasts_S1x1x640x128_S640x128 broadcasts_S1x256_S640x256 concatenates_S640x128_S640x128_S640x256_d1 reduces_S640x256_S256 rfl
  case piece13 =>
    exact Block.whole_left hvis hB hW 256 2 rfl (by omega) (by omega) rfl
  case piece12 =>
    exact Block.whole_right hvis hB hW 384 3 rfl (by omega) (by omega) rfl
  case piece11 =>
    exact Block.loaded_left hvis hB hVt 128 0 512 4 rfl (by omega) (by omega) shapeCasts_S1x1x128x128_S128x128 broadcasts_S1x256_S128x256 concatenates_S128x128_S128x128_S128x256_d1 reduces_S128x256_S256 rfl
  case piece10 =>
    exact Block.loaded_right hvis hB hVt 128 0 640 5 rfl (by omega) (by omega) shapeCasts_S1x1x128x128_S128x128 broadcasts_S1x256_S128x256 concatenates_S128x128_S128x128_S128x256_d1 reduces_S128x256_S256 rfl
  case piece9 =>
    exact Block.loaded_left hvis hB hVt 256 128 512 4 rfl (by omega) (by omega) shapeCasts_S1x1x256x128_S256x128 broadcasts_S1x256_S256x256 concatenates_S256x128_S256x128_S256x256_d1 reduces_S256x256_S256 rfl
  case piece8 =>
    exact Block.loaded_right hvis hB hVt 256 128 640 5 rfl (by omega) (by omega) shapeCasts_S1x1x256x128_S256x128 broadcasts_S1x256_S256x256 concatenates_S256x128_S256x128_S256x256_d1 reduces_S256x256_S256 rfl
  case piece7 =>
    exact Block.loaded_left hvis hB hVt 384 256 512 4 rfl (by omega) (by omega) shapeCasts_S1x1x384x128_S384x128 broadcasts_S1x256_S384x256 concatenates_S384x128_S384x128_S384x256_d1 reduces_S384x256_S256 rfl
  case piece6 =>
    exact Block.loaded_right hvis hB hVt 384 256 640 5 rfl (by omega) (by omega) shapeCasts_S1x1x384x128_S384x128 broadcasts_S1x256_S384x256 concatenates_S384x128_S384x128_S384x256_d1 reduces_S384x256_S256 rfl
  case piece5 =>
    exact Block.loaded_left hvis hB hVt 512 384 512 4 rfl (by omega) (by omega) shapeCasts_S1x1x512x128_S512x128 broadcasts_S1x256_S512x256 concatenates_S512x128_S512x128_S512x256_d1 reduces_S512x256_S256 rfl
  case piece4 =>
    exact Block.loaded_right hvis hB hVt 512 384 640 5 rfl (by omega) (by omega) shapeCasts_S1x1x512x128_S512x128 broadcasts_S1x256_S512x256 concatenates_S512x128_S512x128_S512x256_d1 reduces_S512x256_S256 rfl
  case piece3 =>
    exact Block.loaded_left hvis hB hVt 640 512 512 4 rfl (by omega) (by omega) shapeCasts_S1x1x640x128_S640x128 broadcasts_S1x256_S640x256 concatenates_S640x128_S640x128_S640x256_d1 reduces_S640x256_S256 rfl
  case piece2 =>
    exact Block.loaded_right hvis hB hVt 640 512 640 5 rfl (by omega) (by omega) shapeCasts_S1x1x640x128_S640x128 broadcasts_S1x256_S640x256 concatenates_S640x128_S640x128_S640x256_d1 reduces_S640x256_S256 rfl
  case piece1 =>
    exact Block.whole_left hvis hB hW 512 4 rfl (by omega) (by omega) rfl
  case piece0 =>
    exact Block.whole_right hvis hB hW 640 5 rfl (by omega) (by omega) rfl

end Cert.Step
-- ==== Proof.Entry.lean ====
/- The step's blocks, in terms of the argument arrays. Step `t` serves sequence `t / 8` and key/value group `t % 8`. -/
module

public import proofs.«01_k».proof.Proof.Step

@[expose] public section

set_option maxRecDepth 16384

noncomputable section

namespace Cert.Entry

open Cert.KernelIdeal Cert.KernelIdeal.Gen Idealize.ShloMosaic Idealize.ShloMosaic.TcCoe Idealize.SL.Sem
variable (m : (ℓ : Loc nD τ sig) → Buf (Elt Ideal) ℓ)

/-- The blocks' places. -/
theorem idx : ∀ t : Fin cfg0.N, win0_0.index t = ![0, 0] ∧ win0_1.index t = ![0, 0] ∧ win0_2.index t = ![t.val, 0, 0]
    ∧ win0_3.index t = ![t.val, 0, 0] ∧ win0_4.index t = ![t.val / 8, 0, t.val % 8]
    ∧ win0_5.index t = ![t.val / 8, t.val % 8, 0, 0] ∧ win0_6.index t = ![t.val / 8, t.val % 8, 0, 0]
    ∧ win0_7.index t = ![t.val / 8, 0, t.val % 8] ∧ t.val < 16 :=
  (by decide +kernel : ∀ t : Fin grid0.N, _)

theorem lt16 (t : Fin cfg0.N) : t.val < 16 := (idx t).2.2.2.2.2.2.2.2

/-- The sequence of a step. -/
def seq (t : Fin cfg0.N) : Fin 2 := ⟨t.val / 8, by have := lt16 t; omega⟩

/-- The key/value group of a step. -/
def grp (t : Fin cfg0.N) : Fin 8 := ⟨t.val % 8, by omega⟩

/-! The place of each block in its array. -/

theorem emb0 (t : Fin cfg0.N) (i : Fin 16) (r : Fin 7) :
    ((View.whole main_v6).slice (win0_0.rect t)).emb (ValueIdx.ix2 i r) = (ValueIdx.ix2 i r : S16x7.Idx) := by
  blk_ext [idx t]

theorem emb1 (t : Fin cfg0.N) (i : Fin 16) (r : Fin 2) :
    ((View.whole main_v10).slice (win0_1.rect t)).emb (ValueIdx.ix2 i r) = (ValueIdx.ix2 i r : S16x2.Idx) := by
  blk_ext [idx t]

theorem emb2 (t : Fin cfg0.N) (n : Fin 150) :
    ((View.whole main_v14).slice (win0_2.rect t)).emb (ValueIdx.ix3 0 0 n)
      = (ValueIdx.ix3 (⟨t.val, lt16 t⟩ : Fin 16) 0 n : S16x1x150.Idx) := by
  blk_ext [idx t]

theorem emb3 (t : Fin cfg0.N) (n : Fin 260) :
    ((View.whole main_v15).slice (win0_3.rect t)).emb (ValueIdx.ix3 0 n 0)
      = (ValueIdx.ix3 (⟨t.val, lt16 t⟩ : Fin 16) n 0 : S16x260x1.Idx) := by
  blk_ext [idx t]

theorem emb4 (t : Fin cfg0.N) (i l : Fin 768) :
    ((View.whole main_v11).slice (win0_4.rect t)).emb (ValueIdx.ix3 0 i l)
      = (ValueIdx.ix3 (seq t) i (⟨(grp t).val * 768 + l.val, by have := (grp t).isLt; have := l.isLt; omega⟩ : Fin 6144)
          : S2x768x6144.Idx) := by
  blk_ext [idx t, seq, grp]

theorem emb5 (t : Fin cfg0.N) (j : Fin 768) (d : Fin 128) :
    ((View.whole main_v12).slice (win0_5.rect t)).emb (ValueIdx.ix4 0 0 j d)
      = (ValueIdx.ix4 (seq t) (grp t) j d : S2x8x768x128.Idx) := by
  blk_ext [idx t, seq, grp]

theorem emb6 (t : Fin cfg0.N) (j : Fin 768) (d : Fin 128) :
    ((View.whole main_v13).slice (win0_6.rect t)).emb (ValueIdx.ix4 0 0 j d)
      = (ValueIdx.ix4 (seq t) (grp t) j d : S2x8x768x128.Idx) := by
  blk_ext [idx t, seq, grp]

/-! The contents of each block. -/

theorem k_blk (c : Dev nD) (t : Fin cfg0.N) (j : Fin 768) (d : Fin 128) :
    (iblk m c 5 t (ValueIdx.ix4 0 0 j d) : EReal)
      = (m ((c : Thread nD τ).loc main_arg2) : S2x768x8x128.Idx → EReal) (ValueIdx.ix4 (seq t) j (grp t) d) := by
  blk_simp [iblk]
  entry_read
  rw [emb5]
  exact transpose_apply _ _ transposes_S2x768x8x128_S2x8x768x128_0_2_1_3 _ _ fun b => match b with
    | ⟨0, _⟩ => rfl | ⟨1, _⟩ => rfl | ⟨2, _⟩ => rfl | ⟨3, _⟩ => rfl

theorem v_blk (c : Dev nD) (t : Fin cfg0.N) (j : Fin 768) (d : Fin 128) :
    (iblk m c 6 t (ValueIdx.ix4 0 0 j d) : EReal)
      = (m ((c : Thread nD τ).loc main_arg4) : S2x768x8x128.Idx → EReal) (ValueIdx.ix4 (seq t) j (grp t) d) := by
  blk_simp [iblk]
  entry_read
  rw [emb6]
  exact transpose_apply _ _ transposes_S2x768x8x128_S2x8x768x128_0_2_1_3 _ _ fun b => match b with
    | ⟨0, _⟩ => rfl | ⟨1, _⟩ => rfl | ⟨2, _⟩ => rfl | ⟨3, _⟩ => rfl

theorem q_blk (c : Dev nD) (t : Fin cfg0.N) (i : Fin 768) (r : Fin 6) (d : Fin 128) (l : Fin 768)
    (hl : l.val = r.val * 128 + d.val) :
    (iblk m c 4 t (ValueIdx.ix3 0 i l) : EReal)
      = (m ((c : Thread nD τ).loc main_arg0) : S2x768x48x128.Idx → EReal)
          (ValueIdx.ix4 (seq t) i (Spec.head (grp t) r) d) := by
  blk_simp [iblk]
  entry_read
  rw [emb4]
  refine shapeCast_apply (s := S2x768x48x128) (t := S2x768x6144) _ shapeCasts_S2x768x48x128_S2x768x6144 _ _ ?_
  rw [Shape.rowMajor_val_four, Shape.rowMajor_val_three]
  show (((seq t).val * 768 + i.val) * 48 + ((grp t).val * 6 + r.val)) * 128 + d.val
    = ((seq t).val * 768 + i.val) * 6144 + ((grp t).val * 768 + l.val)
  omega

theorem vIdx_blk (c : Dev nD) (t : Fin cfg0.N) (n : Fin 150) :
    (iblk m c 2 t (ValueIdx.ix3 0 0 n) : BitVec 32)
      = (m ((c : Thread nD τ).loc main_arg6) : S2x8x150.Idx → BitVec 32) (ValueIdx.ix3 (seq t) (grp t) n) := by
  blk_simp [iblk]
  entry_read
  rw [emb2]
  refine shapeCast_apply (s := S2x8x150) (t := S16x1x150) _ shapeCasts_S2x8x150_S16x1x150 _ _ ?_
  rw [Shape.rowMajor_val_three, Shape.rowMajor_val_three]
  show (t.val / 8 * 8 + t.val % 8) * 150 + n.val = (t.val * 1 + 0) * 150 + n.val
  omega

theorem sOff_blk (c : Dev nD) (t : Fin cfg0.N) (n : Fin 260) :
    (iblk m c 3 t (ValueIdx.ix3 0 n 0) : BitVec 32)
      = (m ((c : Thread nD τ).loc main_arg8) : S2x8x260.Idx → BitVec 32) (ValueIdx.ix3 (seq t) (grp t) n) := by
  blk_simp [iblk]
  entry_read
  rw [emb3]
  refine shapeCast_apply (s := S2x8x260) (t := S16x260x1) _ shapeCasts_S2x8x260_S16x260x1 _ _ ?_
  rw [Shape.rowMajor_val_three, Shape.rowMajor_val_three]
  show (t.val / 8 * 8 + t.val % 8) * 260 + n.val = (t.val * 260 + n.val) * 1 + 0
  omega

/-- A table of a sequence and group's entries, one row per step. -/
theorem table_row {α : Type} {n : Nat} (x : (⟨3, ![2, 8, n]⟩ : Shape).Idx → α)
    (h : (⟨3, ![2, 8, n]⟩ : Shape).ShapeCasts ⟨2, ![16, n]⟩) (t : Fin cfg0.N) (i : Fin 16) (hi : i.val = t.val) (r : Fin n) :
    shapeCast ⟨2, ![16, n]⟩ x h (ValueIdx.ix2 i r) = x (ValueIdx.ix3 (seq t) (grp t) r) := by
  refine shapeCast_apply x h _ _ ?_
  rw [Shape.rowMajor_val_three, Shape.rowMajor_val_two]
  show (t.val / 8 * 8 + t.val % 8) * n + r.val = i.val * n + r.val
  rw [hi, show t.val / 8 * 8 + t.val % 8 = t.val by omega]

/-- A per-group array with a trailing unit axis. -/
theorem unit_axis {α : Type} (x : S2x8.Idx → α) (b : Fin 2) (g : Fin 8) (z : Fin 1) :
    broadcastInDim S2x8x1 ![0, 1] bcast_S2x8_S2x8x1_0_1 x (ValueIdx.ix3 b g z) = x (ValueIdx.ix2 b g) :=
  congrArg x (funext fun a => match a with | ⟨0, _⟩ => rfl | ⟨1, _⟩ => rfl)

/-- A per-group array repeated over the group's heads. -/
theorem over_heads {α : Type} (x : S2x8x1.Idx → α) (b : Fin 2) (g : Fin 8) (r : Fin 6) :
    broadcastInDim S2x8x6 ![0, 1, 2] bcast_S2x8x1_S2x8x6_0_1_2 x (ValueIdx.ix3 b g r) = x (ValueIdx.ix3 b g (0 : Fin 1)) :=
  congrArg x (funext fun a => match a with | ⟨0, _⟩ => rfl | ⟨1, _⟩ => rfl | ⟨2, _⟩ => rfl)

theorem vCount_blk (c : Dev nD) (t : Fin cfg0.N) :
    (iblk m c 1 t : S16x2.Idx → BitVec 32) (ValueIdx.ix2 (Fin.castLE (by decide) t : Fin 16) (0 : Fin 2))
      = (m ((c : Thread nD τ).loc main_arg7) : S2x8.Idx → BitVec 32) (ValueIdx.ix2 (seq t) (grp t)) := by
  blk_simp [iblk]
  entry_read
  rw [emb1]
  refine (table_row _ shapeCasts_S2x8x2_S16x2 t _ rfl 0).trans ?_
  exact (concatenate_pair_apply_left (t := S2x8x2) (s₁ := S2x8x1) (s₂ := S2x8x1) _ _ _ concatenates_S2x8x1_S2x8x1_S2x8x2_d2 _ rfl
    (ValueIdx.ix3 (seq t) (grp t) (0 : Fin 1)) fun b => match b with | ⟨0, _⟩ => rfl | ⟨1, _⟩ => rfl | ⟨2, _⟩ => rfl).trans
    (unit_axis _ _ _ _)

theorem sCount_blk (c : Dev nD) (t : Fin cfg0.N) :
    (iblk m c 1 t : S16x2.Idx → BitVec 32) (ValueIdx.ix2 (Fin.castLE (by decide) t : Fin 16) (1 : Fin 2))
      = (m ((c : Thread nD τ).loc main_arg9) : S2x8.Idx → BitVec 32) (ValueIdx.ix2 (seq t) (grp t)) := by
  blk_simp [iblk]
  entry_read
  rw [emb1]
  refine (table_row _ shapeCasts_S2x8x2_S16x2 t _ rfl 1).trans ?_
  exact (concatenate_pair_apply_right (t := S2x8x2) (s₁ := S2x8x1) (s₂ := S2x8x1) _ _ _ concatenates_S2x8x1_S2x8x1_S2x8x2_d2 _ rfl rfl
    (ValueIdx.ix3 (seq t) (grp t) (0 : Fin 1)) (fun b hb => match b, hb with
      | ⟨0, _⟩, _ => rfl | ⟨1, _⟩, _ => rfl | ⟨2, _⟩, hb => absurd rfl hb) rfl).trans
    (unit_axis _ _ _ _)

/-- The per-head and per-group scales, as arrays of numbers. -/
abbrev qScale (c : Dev nD) : S2x48.Idx → EReal := m ((c : Thread nD τ).loc main_arg1)
abbrev kScale (c : Dev nD) : S2x8.Idx → EReal := m ((c : Thread nD τ).loc main_arg3)
abbrev vScale (c : Dev nD) : S2x8.Idx → EReal := m ((c : Thread nD τ).loc main_arg5)

theorem scale_blk (c : Dev nD) (t : Fin cfg0.N) (r : Fin 6) :
    (iblk m c 0 t : S16x7.Idx → EReal) (ValueIdx.ix2 (Fin.castLE (by decide) t : Fin 16) (Fin.castLE (by decide) r : Fin 7))
      = qScale m c (ValueIdx.ix2 (seq t) (Spec.head (grp t) r)) * kScale m c (ValueIdx.ix2 (seq t) (grp t)) := by
  blk_simp [iblk]
  entry_read
  rw [emb0]
  refine (table_row _ shapeCasts_S2x8x7_S16x7 t _ rfl _).trans ?_
  refine (concatenate_pair_apply_left (t := S2x8x7) (s₁ := S2x8x6) (s₂ := S2x8x1) _ _ _ concatenates_S2x8x6_S2x8x1_S2x8x7_d2 _ rfl
    (ValueIdx.ix3 (seq t) (grp t) r) fun b => match b with | ⟨0, _⟩ => rfl | ⟨1, _⟩ => rfl | ⟨2, _⟩ => rfl).trans ?_
  refine congrArg₂ (fun a b : EReal => a * b) ?_ ?_
  · refine shapeCast_apply (s := S2x48) (t := S2x8x6) _ shapeCasts_S2x48_S2x8x6 _ _ ?_
    rw [Shape.rowMajor_val_three, Shape.rowMajor_val_two]
    show (seq t).val * 48 + ((grp t).val * 6 + r.val) = ((seq t).val * 8 + (grp t).val) * 6 + r.val
    omega
  · exact (over_heads _ (seq t) (grp t) r).trans (unit_axis (kScale m c) (seq t) (grp t) 0)

theorem vScale_blk (c : Dev nD) (t : Fin cfg0.N) :
    (iblk m c 0 t : S16x7.Idx → EReal) (ValueIdx.ix2 (Fin.castLE (by decide) t : Fin 16) (6 : Fin 7))
      = vScale m c (ValueIdx.ix2 (seq t) (grp t)) := by
  blk_simp [iblk]
  entry_read
  rw [emb0]
  refine (table_row _ shapeCasts_S2x8x7_S16x7 t _ rfl _).trans ?_
  exact (concatenate_pair_apply_right (t := S2x8x7) (s₁ := S2x8x6) (s₂ := S2x8x1) _ _ _ concatenates_S2x8x6_S2x8x1_S2x8x7_d2 _ rfl rfl
    (ValueIdx.ix3 (seq t) (grp t) (0 : Fin 1)) (fun b hb => match b, hb with
      | ⟨0, _⟩, _ => rfl | ⟨1, _⟩, _ => rfl | ⟨2, _⟩, hb => absurd rfl hb) rfl).trans
    (unit_axis _ _ _ _)

/-- The step's visible keys are the specification's. -/
theorem vis_iff (c : Dev nD) (t : Fin cfg0.N) (k i : Fin 768) :
    Step.vis ((iblk m c 1 t : S16x2.Idx → BitVec 32) (ValueIdx.ix2 (Fin.castLE (by decide) t : Fin 16) (0 : Fin 2)))
        ((iblk m c 1 t : S16x2.Idx → BitVec 32) (ValueIdx.ix2 (Fin.castLE (by decide) t : Fin 16) (1 : Fin 2)))
        (iblk m c 2 t) (iblk m c 3 t) k i
      ↔ Spec.visible (m ((c : Thread nD τ).loc main_arg6)) (m ((c : Thread nD τ).loc main_arg7))
          (m ((c : Thread nD τ).loc main_arg8)) (m ((c : Thread nD τ).loc main_arg9)) (seq t) (grp t) i k := by
  unfold Step.vis Mask.seen Spec.visible Spec.slash Spec.vertical
  refine and_congr_left fun hki => ?_
  rw [Mask.hits_iff _ _ _ _ k i hki, vCount_blk, sCount_blk]
  refine or_congr (exists_congr fun n => ?_) (exists_congr fun n => ?_)
  · exact and_congr_left fun _ => by rw [← sOff_blk m c t n]
  · exact and_congr_left fun _ => by rw [← vIdx_blk m c t n]

/-- The step's output, at a place of the array. -/
theorem emb7 (t : Fin cfg0.N) (y : S1x768x768.Idx) :
    ((View.whole main_v16).slice (win0_7.rect t)).emb y
      = (ValueIdx.ix3 (seq t) (y 1) (⟨(grp t).val * 768 + (y 2).val, by
          have := (grp t).isLt; have h : (y 2).val < 768 := (y 2).isLt; omega⟩ : Fin 6144) : S2x768x6144.Idx) := by
  blk_ext [idx t, seq, grp]

open Classical in
/-- What a step writes is the attention result at the step's places. -/
theorem step_eq (c : Dev nD) (t : Fin cfg0.N) (y : S1x768x768.Idx) :
    outsAt0 m c t y = Spec.outAt (m ((c : Thread nD τ).loc main_arg0)) (qScale m c) (m ((c : Thread nD τ).loc main_arg2)) (kScale m c)
      (m ((c : Thread nD τ).loc main_arg4)) (vScale m c) (m ((c : Thread nD τ).loc main_arg6)) (m ((c : Thread nD τ).loc main_arg7))
      (m ((c : Thread nD τ).loc main_arg8)) (m ((c : Thread nD τ).loc main_arg9))
      (ValueIdx.ix3 (seq t) (y 1) (⟨(grp t).val * 768 + (y 2).val, by
          have := (grp t).isLt; have h : (y 2).val < 768 := (y 2).isLt; omega⟩ : Fin 6144)) := by
  have h2 : (y 2).val < 768 := (y 2).isLt
  have hg := (grp t).isLt
  have e2 : (⟨((grp t).val * 768 + (y 2).val) / 768, by omega⟩ : Fin 8) = grp t := Fin.ext (by show _ / 768 = _; omega)
  have e3 : (⟨((grp t).val * 768 + (y 2).val) / 128 % 6, by omega⟩ : Fin 6) = ⟨(y 2).val / 128, by omega⟩ :=
    Fin.ext (by show ((grp t).val * 768 + (y 2).val) / 128 % 6 = (y 2).val / 128; omega)
  have e4 : (⟨((grp t).val * 768 + (y 2).val) % 128, by omega⟩ : Fin 128) = ⟨(y 2).val % 128, by omega⟩ :=
    Fin.ext (by show ((grp t).val * 768 + (y 2).val) % 128 = (y 2).val % 128; omega)
  rw [Step.step_out]
  show _ = Spec.out _ _ _ _ _ _ _ _ _ _ (seq t) (y 1) ⟨((grp t).val * 768 + (y 2).val) / 768, _⟩
    ⟨((grp t).val * 768 + (y 2).val) / 128 % 6, _⟩ ⟨((grp t).val * 768 + (y 2).val) % 128, _⟩
  rw [e2, e3, e4]
  unfold Block.blockOut Spec.out
  rw [vScale_blk]
  refine congrArg₂ (fun f g => Softmax.attend f g _) (funext fun j => ?_) (funext fun j => v_blk m c t j _)
  unfold Spec.score
  refine if_congr (vis_iff m c t j (y 1)) ?_ rfl
  exact congrArg₂ (fun a b : EReal => a * (b * (((Real.sqrt 128)⁻¹ : ℝ) : EReal)))
    (Finset.sum_congr rfl fun d _ => congrArg₂ (fun a b : EReal => a * b) (k_blk m c t j d)
      (q_blk m c t (y 1) ⟨(y 2).val / 128, by omega⟩ d _ rfl))
    (scale_blk m c t ⟨(y 2).val / 128, by omega⟩)

/-- The array the kernel leaves is the attention result. -/
theorem final (c : Dev nD) : (dats m 0 c).arrAt 7 cfg0.N
    = Spec.outAt (m ((c : Thread nD τ).loc main_arg0)) (qScale m c) (m ((c : Thread nD τ).loc main_arg2)) (kScale m c)
      (m ((c : Thread nD τ).loc main_arg4)) (vScale m c) (m ((c : Thread nD τ).loc main_arg6)) (m ((c : Thread nD τ).loc main_arg7))
      (m ((c : Thread nD τ).loc main_arg8)) (m ((c : Thread nD τ).loc main_arg9)) := by
  refine (dats m 0 c).arrAt_eq_of_covers 7 _ (by decide +kernel) fun t hf y => ?_
  blk_simp
  rw [after0_7]
  refine (step_eq m c t y).trans ?_
  exact congrArg _ (emb7 t y).symm

end Cert.Entry
-- ==== Proof.Ref.lean ====
/- What the reference program holds in its result: attention as `Spec.out` states it. -/
module

public import proofs.«01_k».proof.Proof.Spec
public import proofs.«01_k».proof.Proof.Gen.ReferenceIdeal.Read
public import Idealize.ShloMosaic.Lib.Affine
public import Idealize.ShloMosaic.Lib.Routing.OpsOrder

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.ShloMosaic.StableHlo Idealize.ShloMosaic.ValueIdx Idealize.ShloMosaic.Routing

/-- The reference's vertical hit at a key position. -/
theorem v29_iff (x6 : (⟨S2x8x150, .i32⟩ : BufTy).Contents (Elt Ideal)) (x7 : (⟨S2x8, .i32⟩ : BufTy).Contents (Elt Ideal))
    (b : Fin 2) (g : Fin 8) (j : Fin 768) :
    val_main_v29 (F := Ideal) x6 x7 (ix3 b g j) = 1#1 ↔ Spec.vertical x6 x7 b g j.val := by
  have hr : S2x8x150x768.Reduces [2] S2x8x768 := by decide
  rw [val_main_v29, Host.reduce_eq_fold_single IntOp.ori _ _ reducesTo_S2x8x150x768_S2x8x768_d2 hr h_S_]
  refine (fold_ori _ _).trans ?_
  unfold Spec.vertical
  have key : ∀ n : Fin 150, val_main_v28 (F := Ideal) x6 x7 (hr.lift (ix3 b g j) n) = 1#1
      ↔ x6 (ix3 b g n) = BitVec.ofNat 32 j.val ∧ (BitVec.ofNat 32 n.val).toInt < (x7 (ix2 b g)).toInt := by
    intro n
    have hl : hr.lift (ix3 b g j) n = ix4 b g n j := funext fun a => Fin.ext (match a with
      | ⟨0, _⟩ => rfl | ⟨1, _⟩ => rfl | ⟨2, _⟩ => rfl | ⟨3, _⟩ => rfl)
    rw [hl, val_main_v28_apply, IntOp.andi_eq_one, val_main_v25_apply, IntOp.cmpi_eq, val_main_v23_apply, val_main_v21_apply,
      val_main_v24_apply, val_main_v22_apply, val_main_v1_apply, val_main_v27_apply, val_main_v26_apply, val_main_v14_apply,
      IntOp.cmpi_slt, val_main_v12_apply, val_main_v10_apply, val_main_v9_apply, val_main_v13_apply, val_main_v11_apply]
    have e1 : idx_main_v21 (idx_main_v23 (ix4 b g n j)) = ix3 b g n := funext fun a => match a with
      | ⟨0, _⟩ => rfl | ⟨1, _⟩ => rfl | ⟨2, _⟩ => rfl
    have e2 : idx_main_v11 (idx_main_v13 (idx_main_v26 (idx_main_v27 (ix4 b g n j)))) = ix2 b g := funext fun a => match a with
      | ⟨0, _⟩ => rfl | ⟨1, _⟩ => rfl
    rw [e1, e2]
  constructor
  · rintro ⟨n, -, hn⟩
    exact ⟨n, (key n).1 hn⟩
  · rintro ⟨n, hn⟩
    exact ⟨n, Finset.mem_univ _, (key n).2 hn⟩

/-- The reference's slash hit at a query and a key position, when the key does not come after the query. -/
theorem v38_iff (x8 : (⟨S2x8x260, .i32⟩ : BufTy).Contents (Elt Ideal)) (x9 : (⟨S2x8, .i32⟩ : BufTy).Contents (Elt Ideal))
    (b : Fin 2) (g : Fin 8) (i j : Fin 768) (hij : j.val ≤ i.val) :
    val_main_v38 (F := Ideal) x8 x9 (ix4 b g i j) = 1#1 ↔ Spec.slash x8 x9 b g (i.val - j.val) := by
  have hr : S2x8x260x768x768.Reduces [2] S2x8x768x768 := by decide
  rw [val_main_v38, Host.reduce_eq_fold_single IntOp.ori _ _ reducesTo_S2x8x260x768x768_S2x8x768x768_d2 hr h_S_]
  refine (fold_ori _ _).trans ?_
  unfold Spec.slash
  have hd : IntOp.subi (BitVec.ofNat 32 i.val) (BitVec.ofNat 32 j.val) = BitVec.ofNat 32 (i.val - j.val) := by
    have hi := i.isLt
    apply BitVec.eq_of_toNat_eq
    show (BitVec.ofNat 32 i.val - BitVec.ofNat 32 j.val).toNat = _
    rw [BitVec.toNat_sub]
    simp only [BitVec.toNat_ofNat]
    omega
  have key : ∀ n : Fin 260, val_main_v37 (F := Ideal) x8 x9 (hr.lift (ix4 b g i j) n) = 1#1
      ↔ x8 (ix3 b g n) = BitVec.ofNat 32 (i.val - j.val) ∧ (BitVec.ofNat 32 n.val).toInt < (x9 (ix2 b g)).toInt := by
    intro n
    have hl : hr.lift (ix4 b g i j) n = ix5 b g n i j := funext fun a => Fin.ext (match a with
      | ⟨0, _⟩ => rfl | ⟨1, _⟩ => rfl | ⟨2, _⟩ => rfl | ⟨3, _⟩ => rfl | ⟨4, _⟩ => rfl)
    rw [hl, val_main_v37_apply, IntOp.andi_eq_one, val_main_v34_apply, IntOp.cmpi_eq, val_main_v32_apply, val_main_v30_apply,
      val_main_v33_apply, val_main_v31_apply, val_main_v6_apply, val_main_v4_apply, val_main_v2_apply, val_main_v1_apply,
      val_main_v5_apply, val_main_v3_apply, val_main_v1_apply, val_main_v36_apply, val_main_v35_apply, val_main_v20_apply,
      IntOp.cmpi_slt, val_main_v18_apply, val_main_v16_apply, val_main_v15_apply, val_main_v19_apply, val_main_v17_apply]
    have e1 : idx_main_v30 (idx_main_v32 (ix5 b g n i j)) = ix3 b g n := funext fun a => match a with
      | ⟨0, _⟩ => rfl | ⟨1, _⟩ => rfl | ⟨2, _⟩ => rfl
    have e2 : idx_main_v17 (idx_main_v19 (idx_main_v35 (idx_main_v36 (ix5 b g n i j)))) = ix2 b g := funext fun a => match a with
      | ⟨0, _⟩ => rfl | ⟨1, _⟩ => rfl
    rw [e1, e2, ← hd]
  constructor
  · rintro ⟨n, -, hn⟩
    exact ⟨n, (key n).1 hn⟩
  · rintro ⟨n, hn⟩
    exact ⟨n, Finset.mem_univ _, (key n).2 hn⟩

variable (x1 : (⟨S2x48, .f32⟩ : BufTy).Contents (Elt Ideal)) (x3 x5 : (⟨S2x8, .f32⟩ : BufTy).Contents (Elt Ideal))
  (x6 : (⟨S2x8x150, .i32⟩ : BufTy).Contents (Elt Ideal)) (x7 : (⟨S2x8, .i32⟩ : BufTy).Contents (Elt Ideal))
  (x8 : (⟨S2x8x260, .i32⟩ : BufTy).Contents (Elt Ideal)) (x9 : (⟨S2x8, .i32⟩ : BufTy).Contents (Elt Ideal))
  (r0 : (⟨S2x768x48x128, .f32⟩ : BufTy).Contents (Elt Ideal)) (r1 : (⟨S2x768x8x128, .f32⟩ : BufTy).Contents (Elt Ideal))
  (r2 : (⟨S2x768x8x128, .bf16⟩ : BufTy).Contents (Elt Ideal))

/-- The reference's mask at a query and a key position. -/
theorem v44_iff (b : Fin 2) (g : Fin 8) (i j : Fin 768) :
    val_main_v44 (F := Ideal) x6 x7 x8 x9 (ix4 b g i j) = 1#1 ↔ Spec.visible x6 x7 x8 x9 b g i j := by
  rw [val_main_v44_apply, IntOp.andi_eq_one, val_main_v41_apply, IntOp.ori_eq_one, val_main_v43_apply, val_main_v42_apply,
    val_main_v8_apply, IntOp.cmpi_sge, val_main_v40_apply, val_main_v39_apply]
  have e1 : idx_main_v39 (idx_main_v40 (ix4 b g i j)) = ix3 b g j := funext fun a => match a with
    | ⟨0, _⟩ => rfl | ⟨1, _⟩ => rfl | ⟨2, _⟩ => rfl
  have e2 : idx_main_v42 (idx_main_v43 (ix4 b g i j)) = ix2 i j := funext fun a => match a with
    | ⟨0, _⟩ => rfl | ⟨1, _⟩ => rfl
  rw [e1, e2, v29_iff, val_main_v6_apply, val_main_v4_apply, val_main_v2_apply, val_main_v1_apply,
    val_main_v5_apply, val_main_v3_apply, val_main_v1_apply, val_main_v7_apply, val_main_c_apply]
  have hc : (0#32 : BitVec 32).toInt ≤ (IntOp.subi (BitVec.ofNat 32 i.val) (BitVec.ofNat 32 j.val)).toInt ↔ j.val ≤ i.val := by
    have hi := i.isLt
    have hj := j.isLt
    show (0#32 : BitVec 32).toInt ≤ (BitVec.ofNat 32 i.val - BitVec.ofNat 32 j.val).toInt ↔ _
    have small : ∀ n : Nat, n < 768 → (BitVec.ofNat 32 n).toInt = (n : Int) := fun n hn => by
      rw [BitVec.toInt_eq_toNat_of_lt (by rw [BitVec.toNat_ofNat]; omega), BitVec.toNat_ofNat, Nat.mod_eq_of_lt (by omega)]
    rw [BitVec.toInt_sub, small _ hi, small _ hj, show (0#32 : BitVec 32).toInt = 0 from rfl]
    simp only [Int.bmod]
    omega
  refine (and_congr_right_iff.2 fun _ => hc).trans ?_
  unfold Spec.visible
  constructor
  · rintro ⟨h, hij⟩
    rw [v38_iff x8 x9 b g i j hij] at h
    exact ⟨h, hij⟩
  · rintro ⟨h, hij⟩
    rw [v38_iff x8 x9 b g i j hij]
    exact ⟨h, hij⟩

/-- The reference's masked score. -/
theorem v59_eq (b : Fin 2) (g : Fin 8) (r : Fin 6) (i j : Fin 768) :
    val_main_v59 (F := Ideal) x1 x3 x6 x7 x8 x9 r0 r1 (ix5 b g r i j) = Spec.score r0 x1 r1 x3 x6 x7 x8 x9 b g r i j := by
  rw [val_main_v59_apply, val_main_call0_v1_apply, val_main_v55_apply, val_main_v58_apply, val_main_v54_apply,
    val_main_v53_apply, val_main_v57_apply, val_main_v56_apply, val_main_v51_apply, val_main_v48_apply, val_main_v45_apply,
    val_main_v47_apply, val_main_v46_apply, val_main_v50_apply, val_main_v49_apply, val_main_cst_apply,
    val_main_call0_v2_apply, val_main_call0_v0_apply, val_main_cst_2_apply]
  have e1 : idx_main_v55 (idx_main_call0_v1 (ix5 b g r i j)) = ix4 b g i j := funext fun a => match a with
    | ⟨0, _⟩ => rfl | ⟨1, _⟩ => rfl | ⟨2, _⟩ => rfl | ⟨3, _⟩ => rfl
  have e2 : idx_main_v45 (idx_main_v56 (idx_main_v57 (ix5 b g r i j))) = ix2 b (Spec.head g r) := funext fun a => Fin.ext (by
    have hb := b.isLt
    have hg := g.isLt
    have hr := r.isLt
    match a with
    | ⟨0, _⟩ => show ((b.val * 8 + g.val) * 6 + r.val) / 48 = b.val; omega
    | ⟨1, _⟩ => show ((b.val * 8 + g.val) * 6 + r.val) % 48 = g.val * 6 + r.val; omega)
  have e3 : idx_main_v46 (idx_main_v47 (idx_main_v56 (idx_main_v57 (ix5 b g r i j)))) = ix2 b g := funext fun a => match a with
    | ⟨0, _⟩ => rfl | ⟨1, _⟩ => rfl
  have hdot : (∑ k : Fin 128, r1 (lidx_main_v53 (idx_main_v54 (ix5 b g r i j)) k)
      * val_main_v52 (F := Ideal) r0 (ridx_main_v53 (idx_main_v54 (ix5 b g r i j)) k)) = Spec.dotQK r0 r1 b g r i j := by
    unfold Spec.dotQK
    refine Finset.sum_congr rfl fun d _ => ?_
    rw [val_main_v52_apply]
    have f1 : lidx_main_v53 (idx_main_v54 (ix5 b g r i j)) d = ix4 b j g d := funext fun a => match a with
      | ⟨0, _⟩ => rfl | ⟨1, _⟩ => rfl | ⟨2, _⟩ => rfl | ⟨3, _⟩ => rfl
    have f2 : idx_main_v52 (ridx_main_v53 (idx_main_v54 (ix5 b g r i j)) d) = ix4 b i (Spec.head g r) d :=
      funext fun a => Fin.ext (by
        have hb := b.isLt
        have hg := g.isLt
        have hr := r.isLt
        have hi := i.isLt
        have hd := d.isLt
        match a with
        | ⟨0, _⟩ => show ((((b.val * 768 + i.val) * 8 + g.val) * 6 + r.val) * 128 + d.val) / 4718592 = b.val; omega
        | ⟨1, _⟩ => show ((((b.val * 768 + i.val) * 8 + g.val) * 6 + r.val) * 128 + d.val) / 6144 % 768 = i.val; omega
        | ⟨2, _⟩ => show ((((b.val * 768 + i.val) * 8 + g.val) * 6 + r.val) * 128 + d.val) / 128 % 48 = g.val * 6 + r.val; omega
        | ⟨3, _⟩ => show ((((b.val * 768 + i.val) * 8 + g.val) * 6 + r.val) * 128 + d.val) % 128 = d.val; omega)
    rw [f1, f2]
  rw [e1, e2, e3, hdot]
  have hs : FloatOps.hostUnary (F := Ideal) .sqrt (FloatOps.ofBits .f32 0x43000000#32) = ((Real.sqrt 128 : ℝ) : EReal) := by
    show Ideal.sqrt (Ideal.ofBits .f32 0x43000000#32) = _
    rw [Spec.ofBits_128, Ideal.sqrt_coe, if_neg (by norm_num)]
  have hpos : (0 : ℝ) < Real.sqrt 128 := Real.sqrt_pos.2 (by norm_num)
  have hdiv : ∀ y : EReal, FloatOps.hostDivf (F := Ideal) (φ := .f32) y ((Real.sqrt 128 : ℝ) : EReal)
      = y * (((Real.sqrt 128)⁻¹ : ℝ) : EReal) := by
    intro y
    show Ideal.div y _ = _
    unfold Ideal.div
    rw [if_neg (by exact_mod_cast hpos.ne'), EReal.coe_inv]
  rw [hs, hdiv]
  unfold Spec.score
  split
  · next h =>
    rw [(v44_iff x6 x7 x8 x9 b g i j).2 h, select_one]
    rfl
  · next h =>
    rw [eq_zero_of_ne_one (mt (v44_iff x6 x7 x8 x9 b g i j).1 h), select_zero]
    exact Spec.ofBits_negInf

/-- The index a maximum over keys reads. -/
theorem lift60 (hr : S2x8x6x768x768.Reduces [4] S2x8x6x768) (b : Fin 2) (g : Fin 8) (r : Fin 6) (i j : Fin 768) :
    hr.lift (ix4 b g r i) j = ix5 b g r i j := funext fun a => Fin.ext (match a with
      | ⟨0, _⟩ => rfl | ⟨1, _⟩ => rfl | ⟨2, _⟩ => rfl | ⟨3, _⟩ => rfl | ⟨4, _⟩ => rfl)

/-- A maximum over one axis from `−∞` is the supremum of the elements read. -/
theorem reduce_max {s t u : Shape} {a : Fin s.rank} (x : s.Idx → EReal) (init : u.Idx → EReal) (h' : s.ReducesTo [a] t)
    (h : s.Reduces [a] t) (hu : 0 < u.numel) (j : t.Idx) (hi : init (Shape.Idx.first hu) = ⊥) :
    Host.reduce (FloatOps.maximumf (F := Ideal) (φ := .f32)) x init h' hu j = Finset.univ.sup (fun k => x (h.lift j k)) := by
  rw [Host.reduce_eq_fold_single (FloatOps.maximumf (F := Ideal) (φ := .f32)) x init h' h hu, hi]
  exact Spec.fold_max _ _

/-- The reference's largest score of a query. -/
theorem v60_eq (b : Fin 2) (g : Fin 8) (r : Fin 6) (i : Fin 768) :
    val_main_v60 (F := Ideal) x1 x3 x6 x7 x8 x9 r0 r1 (ix4 b g r i)
      = Finset.univ.sup (fun j : Fin 768 => Spec.score r0 x1 r1 x3 x6 x7 x8 x9 b g r i j) := by
  have hr : S2x8x6x768x768.Reduces [4] S2x8x6x768 := by decide
  have hc : val_main_cst_3 (F := Ideal) (Shape.Idx.first h_S_) = (⊥ : EReal) := by
    rw [val_main_cst_3_apply, Ideal.ofBits_def, Spec.ofBits_negInf]
  unfold val_main_v60
  refine (reduce_max _ _ reducesTo_S2x8x6x768x768_S2x8x6x768_d4 hr h_S_ (ix4 b g r i) hc).trans ?_
  refine congrArg (Finset.sup Finset.univ) (funext fun j => ?_)
  exact (congrArg (val_main_v59 (F := Ideal) x1 x3 x6 x7 x8 x9 r0 r1) (lift60 hr b g r i j)).trans
    (v59_eq x1 x3 x6 x7 x8 x9 r0 r1 b g r i j)

/-- The reference's exponential of a score less the query's largest. -/
theorem v64_eq (b : Fin 2) (g : Fin 8) (r : Fin 6) (i j : Fin 768) :
    val_main_v64 (F := Ideal) x1 x3 x6 x7 x8 x9 r0 r1 (ix5 b g r i j)
      = Ideal.exp (Spec.score r0 x1 r1 x3 x6 x7 x8 x9 b g r i j
        - Finset.univ.sup (fun j : Fin 768 => Spec.score r0 x1 r1 x3 x6 x7 x8 x9 b g r i j)) := by
  rw [val_main_v64_apply, val_main_v63_apply, val_main_v62_apply, val_main_v61_apply, v59_eq]
  have e : idx_main_v61 (idx_main_v62 (ix5 b g r i j)) = ix4 b g r i := funext fun a => match a with
    | ⟨0, _⟩ => rfl | ⟨1, _⟩ => rfl | ⟨2, _⟩ => rfl | ⟨3, _⟩ => rfl
  rw [e, v60_eq]
  rfl

/-- The reference's result at a query, a head and a feature. -/
theorem v76_eq (b : Fin 2) (i : Fin 768) (g : Fin 8) (r : Fin 6) (d : Fin 128) :
    val_main_v76 (F := Ideal) x1 x3 x5 x6 x7 x8 x9 r0 r1 r2 (ix5 b i g r d)
      = Spec.out r0 x1 r1 x3 r2 x5 x6 x7 x8 x9 b i g r d := by
  rw [val_main_v76_apply, val_main_v73_apply, val_main_v72_apply, val_main_v75_apply, val_main_v74_apply]
  have e1 : idx_main_v74 (idx_main_v75 (ix5 b i g r d)) = ix2 b g := funext fun a => match a with
    | ⟨0, _⟩ => rfl | ⟨1, _⟩ => rfl
  have e2 : ∀ j : Fin 768, lidx_main_v72 (idx_main_v73 (ix5 b i g r d)) j = ix4 b j g d := fun j => funext fun a => match a with
    | ⟨0, _⟩ => rfl | ⟨1, _⟩ => rfl | ⟨2, _⟩ => rfl | ⟨3, _⟩ => rfl
  have e3 : ∀ j : Fin 768, ridx_main_v72 (idx_main_v73 (ix5 b i g r d)) j = ix5 b g r i j := fun j => funext fun a => match a with
    | ⟨0, _⟩ => rfl | ⟨1, _⟩ => rfl | ⟨2, _⟩ => rfl | ⟨3, _⟩ => rfl | ⟨4, _⟩ => rfl
  rw [e1]
  unfold Spec.out Softmax.attend
  refine congrArg (· * x5 (ix2 b g)) (Finset.sum_congr rfl fun j _ => ?_)
  rw [e2 j, e3 j, val_main_v71_apply, val_main_v70_apply, v64_eq, val_main_v69_apply, val_main_v68_apply,
    val_main_v67_apply, val_main_cst_5_apply, val_main_v66_apply, val_main_v65_apply, val_main_cst_4_apply]
  have hsum : (∑ k : Fin 768, val_main_v64 (F := Ideal) x1 x3 x6 x7 x8 x9 r0 r1
      (idx_main_v65 (idx_main_v66 (idx_main_v69 (ix5 b g r i j))) k))
      = ∑ k : Fin 768, Ideal.exp (Spec.score r0 x1 r1 x3 x6 x7 x8 x9 b g r i k
        - Finset.univ.sup (fun j : Fin 768 => Spec.score r0 x1 r1 x3 x6 x7 x8 x9 b g r i j)) := by
    refine Finset.sum_congr rfl fun k _ => ?_
    have e : idx_main_v65 (idx_main_v66 (idx_main_v69 (ix5 b g r i j))) k = ix5 b g r i k := funext fun a => match a with
      | ⟨0, _⟩ => rfl | ⟨1, _⟩ => rfl | ⟨2, _⟩ => rfl | ⟨3, _⟩ => rfl | ⟨4, _⟩ => rfl
    rw [e, v64_eq]
  rw [hsum, Ideal.ofBits_def, Ideal.ofBits_def, Spec.ofBits_one, Ideal.ofBits_zero_f32, zero_add]
  exact mul_comm _ _

/-- The reference's result array. -/
theorem v78_eq (y : S2x768x6144.Idx) :
    val_main_v78 (F := Ideal) x1 x3 x5 x6 x7 x8 x9 r0 r1 r2 y = Spec.outAt r0 x1 r1 x3 r2 x5 x6 x7 x8 x9 y := by
  rw [val_main_v78_apply, val_main_v77_apply]
  unfold Spec.outAt
  rw [← v76_eq]
  refine congrArg (val_main_v76 (F := Ideal) x1 x3 x5 x6 x7 x8 x9 r0 r1 r2) (funext fun a => Fin.ext ?_)
  have h0 : (y 0).val < 2 := (y 0).isLt
  have h1 : (y 1).val < 768 := (y 1).isLt
  have h2 : (y 2).val < 6144 := (y 2).isLt
  match a with
  | ⟨0, _⟩ => show (((y 0).val * 768 + (y 1).val) * 6144 + (y 2).val) / 4718592 = (y 0).val; omega
  | ⟨1, _⟩ => show (((y 0).val * 768 + (y 1).val) * 6144 + (y 2).val) / 6144 % 768 = (y 1).val; omega
  | ⟨2, _⟩ => show (((y 0).val * 768 + (y 1).val) * 6144 + (y 2).val) / 768 % 8 = (y 2).val / 768; omega
  | ⟨3, _⟩ => show (((y 0).val * 768 + (y 1).val) * 6144 + (y 2).val) / 128 % 6 = (y 2).val / 128 % 6; omega
  | ⟨4, _⟩ => show (((y 0).val * 768 + (y 1).val) * 6144 + (y 2).val) % 128 = (y 2).val % 128; omega

end Cert.Ref
-- ==== Proof.Widen.lean ====
/- The reference's widened arrays are its arguments: over the reals a widening changes nothing. -/
module

public import proofs.«01_k».proof.Proof.Ref
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

namespace Cert.Widen

open Cert.ReferenceIdeal Cert.ReferenceIdeal.Gen Idealize.ShloMosaic Idealize.ShloMosaic.TcCoe Idealize.SL.Sem
variable (m : (ℓ : Loc nD τ sig) → Buf (Elt Ideal) ℓ)

theorem idx : ∀ t : Fin cfg0.N, win0_0.index t = ![0, 0, 0, 0] ∧ win0_1.index t = ![0, 0, 0, 0] ∧ win0_2.index t = ![0, 0, 0, 0] :=
  (by decide +kernel : ∀ t : Fin grid0.N, _)

theorem q_wide (c : Dev nD) : (dats m 0 c).arrAt 3 cfg0.N = (m ((c : Thread nD τ).loc main_arg0) : S2x768x48x128.Idx → EReal) := by
  refine (dats m 0 c).arrAt_eq_of_after_last 3 t0_0 (by decide +kernel) _ fun j => ?_
  blk_simp
  rw [after0_3]
  frame_out
  show (iblk m c 0 t0_0 _ : EReal) = _
  blk_ext [iblk, V, idx t0_0]

theorem k_wide (c : Dev nD) : (dats m 0 c).arrAt 4 cfg0.N = (m ((c : Thread nD τ).loc main_arg2) : S2x768x8x128.Idx → EReal) := by
  refine (dats m 0 c).arrAt_eq_of_after_last 4 t0_0 (by decide +kernel) _ fun j => ?_
  blk_simp
  rw [after0_4]
  frame_out
  show (iblk m c 1 t0_0 _ : EReal) = _
  blk_ext [iblk, V, idx t0_0]

theorem v_wide (c : Dev nD) : (dats m 0 c).arrAt 5 cfg0.N = (m ((c : Thread nD τ).loc main_arg4) : S2x768x8x128.Idx → EReal) := by
  refine (dats m 0 c).arrAt_eq_of_after_last 5 t0_0 (by decide +kernel) _ fun j => ?_
  blk_simp
  rw [after0_5]
  frame_out
  show (iblk m c 2 t0_0 _ : EReal) = _
  blk_ext [iblk, V, idx t0_0]

/-- The reference's result is the attention result over its arguments. -/
theorem final (c : Dev nD) :
    Read.val_main_v78 (F := Ideal) (Value.exitV m c (Proc.devRef .tc main_arg1)) (Value.exitV m c (Proc.devRef .tc main_arg3))
      (Value.exitV m c (Proc.devRef .tc main_arg5)) (Value.exitV m c (Proc.devRef .tc main_arg6))
      (Value.exitV m c (Proc.devRef .tc main_arg7)) (Value.exitV m c (Proc.devRef .tc main_arg8))
      (Value.exitV m c (Proc.devRef .tc main_arg9)) (Value.exitV m c (Proc.devRef .tc main_v0_0))
      (Value.exitV m c (Proc.devRef .tc main_v0_1)) (Value.exitV m c (Proc.devRef .tc main_v0_2))
    = Spec.outAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  rw [Value.exit_main_arg1, Value.exit_main_arg3, Value.exit_main_arg5, Value.exit_main_arg6, Value.exit_main_arg7,
    Value.exit_main_arg8, Value.exit_main_arg9, Value.exit_main_v0_0, Value.exit_main_v0_1, Value.exit_main_v0_2]
  refine (funext fun y => Ref.v78_eq _ _ _ _ _ _ _ _ _ _ y).trans ?_
  exact Spec.outAt_congr (q_wide m c) rfl (k_wide m c) rfl (v_wide m c) rfl rfl rfl rfl rfl

end Cert.Widen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Entry
public import proofs.«01_k».proof.Proof.Widen
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "log2e_inv_sqrt_d" .f32 0x3E0293EE#32
    (((Real.log 2)⁻¹ * (Real.sqrt 128)⁻¹ : ℝ) : EReal) rfl

/-- Over the reals the kernel and the reference leave the same attention result. -/
theorem algebraic : Cert.algebraic_KernelIdeal_ReferenceIdeal := by
  intro m g m' g' _ h
  refine ⟨fun c => _, (θ_run _ _ _).mono (fun r hr c => ⟨(hr c).1.trans (Cert.Entry.final m c), (hr c).2⟩)
    (Cert.KernelIdeal.Value.run_blocks m g), (θ_run _ _ _).mono (fun r hr c => ⟨(hr c).1.trans ?_, (hr c).2⟩)
    (Cert.ReferenceIdeal.Value.run m' g')⟩
  obtain ⟨h0, h1, h2, h3, h4, h5, h6, h7, h8, h9⟩ := h c
  refine ((Cert.ReferenceIdeal.Read.val_main_v78_eq _).trans (Cert.Widen.final m' c)).trans ?_
  exact Cert.Spec.outAt_congr h0 h1 h2 h3 h4 h5 h6 h7 h8 h9

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
